-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 512, 8, 64]⟩ ⟨4, ![4, 512, 16, 64]⟩ (Layout.meshBlock [2, 2, 4] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![4, 256, 1024]⟩ ⟨3, ![4, 512, 1024]⟩ (Layout.meshBlock [2, 2, 4] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x8x64 : Shape := ⟨4, ![4, 512, 8, 64]⟩
abbrev S512x1024 : Shape := ⟨2, ![512, 1024]⟩
abbrev S4x256x1024 : Shape := ⟨3, ![4, 256, 1024]⟩
abbrev S512x512 : Shape := ⟨2, ![512, 512]⟩
abbrev S4x256x512 : Shape := ⟨3, ![4, 256, 512]⟩
abbrev S8 : Shape := ⟨1, ![8]⟩
abbrev S_ : Shape := ⟨0, ![]⟩
abbrev S1x128x8x64 : Shape := ⟨4, ![1, 128, 8, 64]⟩
abbrev S128x8x64 : Shape := ⟨3, ![128, 8, 64]⟩
abbrev S128x512 : Shape := ⟨2, ![128, 512]⟩
abbrev S1x128x512 : Shape := ⟨3, ![1, 128, 512]⟩
abbrev S1 : Shape := ⟨1, ![1]⟩
abbrev S1x256x512 : Shape := ⟨3, ![1, 256, 512]⟩
abbrev S256x512 : Shape := ⟨2, ![256, 512]⟩

abbrev nBuf : Space → Nat
  | .hbm => 3
  | .vmem => 8
  | .smem => 0
  | _ => 0

abbrev bufTy : (tb : Table) → Fin (tcTables nBuf tb) → BufTy
  | .hbm, ⟨0, _⟩ => ⟨S4x512x8x64, .bf16⟩
  | .hbm, ⟨1, _⟩ => ⟨S512x1024, .bf16⟩
  | .hbm, ⟨2, _⟩ => ⟨S4x256x1024, .f32⟩
  | .local _ .vmem, ⟨0, _⟩ => ⟨S4x512x8x64, .bf16⟩
  | .local _ .vmem, ⟨1, _⟩ => ⟨S512x1024, .bf16⟩
  | .local _ .vmem, ⟨2, _⟩ => ⟨S4x256x1024, .f32⟩
  | .local _ .vmem, ⟨3, _⟩ => ⟨S512x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | _, _ => ⟨S4x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 2 → Nat :=
  let c0 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v24 : BitVec 32 := Scalar.muli v2 c512_i32
  let v25 : Index := Scalar.indexCast v24
  ![0, v25.toNat]
def k0_off2 (d0 : Dev nD) (c0_i32_15 : BitVec 32) : Fin 4 → Nat :=
  let c0_16 : Index := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c256_i32 : BitVec 32 := 256#32
  let v31 : BitVec 32 := Scalar.muli v9 c256_i32
  let v32 : BitVec 32 := Scalar.addi v31 c0_i32_15
  let v33 : Index := Scalar.indexCast v32
  let c0_17 : Index := 0#32
  let c0_18 : Index := 0#32
  ![0, v33.toNat, 0, 0]
def k0_dev3 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v43 : BitVec 32 := Scalar.muli v2 c8_i32_29
  let v44 : BitVec 32 := Scalar.addi c0_i32_30 v43
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_31 : BitVec 32 := 4#32
  let v45 : BitVec 32 := Scalar.muli v9 c4_i32_31
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v47 : BitVec 32 := Scalar.muli v8 c1_i32_32
  let v48 : BitVec 32 := Scalar.addi v46 v47
  v48.toNat
def k0_dev4 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v69 : BitVec 32 := Scalar.muli v2 c8_i32_50
  let v70 : BitVec 32 := Scalar.addi c0_i32_51 v69
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_52 : BitVec 32 := 4#32
  let v71 : BitVec 32 := Scalar.muli v9 c4_i32_52
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v73 : BitVec 32 := Scalar.muli v8 c1_i32_53
  let v74 : BitVec 32 := Scalar.addi v72 v73
  v74.toNat
def k0_off3 (d0 : Dev nD) (c0_i32_59 : BitVec 32) : Fin 4 → Nat :=
  let c1 : Index := 1#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c256_i32_58 : BitVec 32 := 256#32
  let v83 : BitVec 32 := Scalar.muli v9 c256_i32_58
  let v84 : BitVec 32 := Scalar.addi v83 c0_i32_59
  let v85 : Index := Scalar.indexCast v84
  let c0_60 : Index := 0#32
  let c0_61 : Index := 0#32
  ![1, v85.toNat, 0, 0]
def k0_dev5 (d0 : Dev nD) : Nat :=
  let c0_i32_73 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_72 : BitVec 32 := 8#32
  let v95 : BitVec 32 := Scalar.muli v2 c8_i32_72
  let v96 : BitVec 32 := Scalar.addi c0_i32_73 v95
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_74 : BitVec 32 := 4#32
  let v97 : BitVec 32 := Scalar.muli v9 c4_i32_74
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v99 : BitVec 32 := Scalar.muli v8 c1_i32_75
  let v100 : BitVec 32 := Scalar.addi v98 v99
  v100.toNat
def k0_dev6 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v121 : BitVec 32 := Scalar.muli v2 c8_i32_94
  let v122 : BitVec 32 := Scalar.addi c0_i32_95 v121
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_96 : BitVec 32 := 4#32
  let v123 : BitVec 32 := Scalar.muli v9 c4_i32_96
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v125 : BitVec 32 := Scalar.muli v8 c1_i32_97
  let v126 : BitVec 32 := Scalar.addi v124 v125
  v126.toNat
def k0_off4 (d0 : Dev nD) (c0_i32_103 : BitVec 32) : Fin 4 → Nat :=
  let c2 : Index := 2#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c256_i32_102 : BitVec 32 := 256#32
  let v135 : BitVec 32 := Scalar.muli v9 c256_i32_102
  let v136 : BitVec 32 := Scalar.addi v135 c0_i32_103
  let v137 : Index := Scalar.indexCast v136
  let c0_104 : Index := 0#32
  let c0_105 : Index := 0#32
  ![2, v137.toNat, 0, 0]
def k0_dev7 (d0 : Dev nD) : Nat :=
  let c0_i32_117 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_116 : BitVec 32 := 8#32
  let v147 : BitVec 32 := Scalar.muli v2 c8_i32_116
  let v148 : BitVec 32 := Scalar.addi c0_i32_117 v147
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_118 : BitVec 32 := 4#32
  let v149 : BitVec 32 := Scalar.muli v9 c4_i32_118
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v151 : BitVec 32 := Scalar.muli v8 c1_i32_119
  let v152 : BitVec 32 := Scalar.addi v150 v151
  v152.toNat
def k0_dev8 (d0 : Dev nD) : Nat :=
  let c0_i32_139 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_138 : BitVec 32 := 8#32
  let v173 : BitVec 32 := Scalar.muli v2 c8_i32_138
  let v174 : BitVec 32 := Scalar.addi c0_i32_139 v173
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_140 : BitVec 32 := 4#32
  let v175 : BitVec 32 := Scalar.muli v9 c4_i32_140
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v177 : BitVec 32 := Scalar.muli v8 c1_i32_141
  let v178 : BitVec 32 := Scalar.addi v176 v177
  v178.toNat
def k0_off5 (d0 : Dev nD) (c0_i32_147 : BitVec 32) : Fin 4 → Nat :=
  let c3 : Index := 3#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c256_i32_146 : BitVec 32 := 256#32
  let v187 : BitVec 32 := Scalar.muli v9 c256_i32_146
  let v188 : BitVec 32 := Scalar.addi v187 c0_i32_147
  let v189 : Index := Scalar.indexCast v188
  let c0_148 : Index := 0#32
  let c0_149 : Index := 0#32
  ![3, v189.toNat, 0, 0]
def k0_dev9 (d0 : Dev nD) : Nat :=
  let c0_i32_160 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_159 : BitVec 32 := 8#32
  let v199 : BitVec 32 := Scalar.muli v2 c8_i32_159
  let v200 : BitVec 32 := Scalar.addi c0_i32_160 v199
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_161 : BitVec 32 := 4#32
  let v201 : BitVec 32 := Scalar.muli v9 c4_i32_161
  let v202 : BitVec 32 := Scalar.addi v200 v201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v203 : BitVec 32 := Scalar.muli v8 c1_i32_162
  let v204 : BitVec 32 := Scalar.addi v202 v203
  v204.toNat
def k0_dev10 (d0 : Dev nD) : Nat :=
  let c0_i32_182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_181 : BitVec 32 := 8#32
  let v225 : BitVec 32 := Scalar.muli v2 c8_i32_181
  let v226 : BitVec 32 := Scalar.addi c0_i32_182 v225
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_183 : BitVec 32 := 4#32
  let v227 : BitVec 32 := Scalar.muli v9 c4_i32_183
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v229 : BitVec 32 := Scalar.muli v8 c1_i32_184
  let v230 : BitVec 32 := Scalar.addi v228 v229
  v230.toNat
def k0_off6 (d0 : Dev nD) (c0_i32_190 : BitVec 32) : Fin 4 → Nat :=
  let c0_191 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_189 : BitVec 32 := 256#32
  let v239 : BitVec 32 := Scalar.muli v5 c256_i32_189
  let v240 : BitVec 32 := Scalar.addi v239 c0_i32_190
  let v241 : Index := Scalar.indexCast v240
  let c0_192 : Index := 0#32
  let c0_193 : Index := 0#32
  ![0, v241.toNat, 0, 0]
def k0_off7 (d0 : Dev nD) : Fin 3 → Nat :=
  let c0_213 : Index := 0#32
  let c0_214 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_212 : BitVec 32 := 512#32
  let v263 : BitVec 32 := Scalar.muli v2 c512_i32_212
  let v264 : Index := Scalar.indexCast v263
  ![0, 0, v264.toNat]
def k0_dev11 (d0 : Dev nD) : Nat :=
  let c0_i32_223 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_222 : BitVec 32 := 8#32
  let v272 : BitVec 32 := Scalar.muli v10 c8_i32_222
  let v273 : BitVec 32 := Scalar.addi c0_i32_223 v272
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_224 : BitVec 32 := 4#32
  let v274 : BitVec 32 := Scalar.muli v5 c4_i32_224
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v276 : BitVec 32 := Scalar.muli v8 c1_i32_225
  let v277 : BitVec 32 := Scalar.addi v275 v276
  v277.toNat
def k0_off8 (d0 : Dev nD) : Fin 3 → Nat :=
  let c0_254 : Index := 0#32
  let c128_255 : Index := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_253 : BitVec 32 := 512#32
  let v310 : BitVec 32 := Scalar.muli v2 c512_i32_253
  let v311 : Index := Scalar.indexCast v310
  ![0, 128, v311.toNat]
def k0_dev12 (d0 : Dev nD) : Nat :=
  let c0_i32_264 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_263 : BitVec 32 := 8#32
  let v319 : BitVec 32 := Scalar.muli v10 c8_i32_263
  let v320 : BitVec 32 := Scalar.addi c0_i32_264 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_265 : BitVec 32 := 4#32
  let v321 : BitVec 32 := Scalar.muli v5 c4_i32_265
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v323 : BitVec 32 := Scalar.muli v8 c1_i32_266
  let v324 : BitVec 32 := Scalar.addi v322 v323
  v324.toNat
def k0_off9 (d0 : Dev nD) (c0_i32_272 : BitVec 32) : Fin 4 → Nat :=
  let c1_273 : Index := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_271 : BitVec 32 := 256#32
  let v333 : BitVec 32 := Scalar.muli v5 c256_i32_271
  let v334 : BitVec 32 := Scalar.addi v333 c0_i32_272
  let v335 : Index := Scalar.indexCast v334
  let c0_274 : Index := 0#32
  let c0_275 : Index := 0#32
  ![1, v335.toNat, 0, 0]
def k0_off10 (d0 : Dev nD) : Fin 3 → Nat :=
  let c1_295 : Index := 1#32
  let c0_296 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_294 : BitVec 32 := 512#32
  let v357 : BitVec 32 := Scalar.muli v2 c512_i32_294
  let v358 : Index := Scalar.indexCast v357
  ![1, 0, v358.toNat]
def k0_dev13 (d0 : Dev nD) : Nat :=
  let c0_i32_305 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_304 : BitVec 32 := 8#32
  let v366 : BitVec 32 := Scalar.muli v10 c8_i32_304
  let v367 : BitVec 32 := Scalar.addi c0_i32_305 v366
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_306 : BitVec 32 := 4#32
  let v368 : BitVec 32 := Scalar.muli v5 c4_i32_306
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v370 : BitVec 32 := Scalar.muli v8 c1_i32_307
  let v371 : BitVec 32 := Scalar.addi v369 v370
  v371.toNat
def k0_off11 (d0 : Dev nD) : Fin 3 → Nat :=
  let c1_336 : Index := 1#32
  let c128_337 : Index := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_335 : BitVec 32 := 512#32
  let v404 : BitVec 32 := Scalar.muli v2 c512_i32_335
  let v405 : Index := Scalar.indexCast v404
  ![1, 128, v405.toNat]
def k0_dev14 (d0 : Dev nD) : Nat :=
  let c0_i32_346 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_345 : BitVec 32 := 8#32
  let v413 : BitVec 32 := Scalar.muli v10 c8_i32_345
  let v414 : BitVec 32 := Scalar.addi c0_i32_346 v413
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_347 : BitVec 32 := 4#32
  let v415 : BitVec 32 := Scalar.muli v5 c4_i32_347
  let v416 : BitVec 32 := Scalar.addi v414 v415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v417 : BitVec 32 := Scalar.muli v8 c1_i32_348
  let v418 : BitVec 32 := Scalar.addi v416 v417
  v418.toNat
def k0_off12 (d0 : Dev nD) (c0_i32_354 : BitVec 32) : Fin 4 → Nat :=
  let c2_355 : Index := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_353 : BitVec 32 := 256#32
  let v427 : BitVec 32 := Scalar.muli v5 c256_i32_353
  let v428 : BitVec 32 := Scalar.addi v427 c0_i32_354
  let v429 : Index := Scalar.indexCast v428
  let c0_356 : Index := 0#32
  let c0_357 : Index := 0#32
  ![2, v429.toNat, 0, 0]
def k0_off13 (d0 : Dev nD) : Fin 3 → Nat :=
  let c2_377 : Index := 2#32
  let c0_378 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_376 : BitVec 32 := 512#32
  let v451 : BitVec 32 := Scalar.muli v2 c512_i32_376
  let v452 : Index := Scalar.indexCast v451
  ![2, 0, v452.toNat]
def k0_dev15 (d0 : Dev nD) : Nat :=
  let c0_i32_387 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_386 : BitVec 32 := 8#32
  let v460 : BitVec 32 := Scalar.muli v10 c8_i32_386
  let v461 : BitVec 32 := Scalar.addi c0_i32_387 v460
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_388 : BitVec 32 := 4#32
  let v462 : BitVec 32 := Scalar.muli v5 c4_i32_388
  let v463 : BitVec 32 := Scalar.addi v461 v462
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_389 : BitVec 32 := 1#32
  let v464 : BitVec 32 := Scalar.muli v8 c1_i32_389
  let v465 : BitVec 32 := Scalar.addi v463 v464
  v465.toNat
def k0_off14 (d0 : Dev nD) : Fin 3 → Nat :=
  let c2_418 : Index := 2#32
  let c128_419 : Index := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_417 : BitVec 32 := 512#32
  let v498 : BitVec 32 := Scalar.muli v2 c512_i32_417
  let v499 : Index := Scalar.indexCast v498
  ![2, 128, v499.toNat]
def k0_dev16 (d0 : Dev nD) : Nat :=
  let c0_i32_428 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_427 : BitVec 32 := 8#32
  let v507 : BitVec 32 := Scalar.muli v10 c8_i32_427
  let v508 : BitVec 32 := Scalar.addi c0_i32_428 v507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_429 : BitVec 32 := 4#32
  let v509 : BitVec 32 := Scalar.muli v5 c4_i32_429
  let v510 : BitVec 32 := Scalar.addi v508 v509
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_430 : BitVec 32 := 1#32
  let v511 : BitVec 32 := Scalar.muli v8 c1_i32_430
  let v512 : BitVec 32 := Scalar.addi v510 v511
  v512.toNat
def k0_off15 (d0 : Dev nD) (c0_i32_436 : BitVec 32) : Fin 4 → Nat :=
  let c3_437 : Index := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_435 : BitVec 32 := 256#32
  let v521 : BitVec 32 := Scalar.muli v5 c256_i32_435
  let v522 : BitVec 32 := Scalar.addi v521 c0_i32_436
  let v523 : Index := Scalar.indexCast v522
  let c0_438 : Index := 0#32
  let c0_439 : Index := 0#32
  ![3, v523.toNat, 0, 0]
def k0_off16 (d0 : Dev nD) : Fin 3 → Nat :=
  let c3_459 : Index := 3#32
  let c0_460 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_458 : BitVec 32 := 512#32
  let v545 : BitVec 32 := Scalar.muli v2 c512_i32_458
  let v546 : Index := Scalar.indexCast v545
  ![3, 0, v546.toNat]
def k0_dev17 (d0 : Dev nD) : Nat :=
  let c0_i32_469 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_468 : BitVec 32 := 8#32
  let v554 : BitVec 32 := Scalar.muli v10 c8_i32_468
  let v555 : BitVec 32 := Scalar.addi c0_i32_469 v554
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v556 : BitVec 32 := Scalar.muli v5 c4_i32_470
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v558 : BitVec 32 := Scalar.muli v8 c1_i32_471
  let v559 : BitVec 32 := Scalar.addi v557 v558
  v559.toNat
def k0_off17 (d0 : Dev nD) : Fin 3 → Nat :=
  let c3_500 : Index := 3#32
  let c128_501 : Index := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_499 : BitVec 32 := 512#32
  let v592 : BitVec 32 := Scalar.muli v2 c512_i32_499
  let v593 : Index := Scalar.indexCast v592
  ![3, 128, v593.toNat]
def k0_dev18 (d0 : Dev nD) : Nat :=
  let c0_i32_510 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_509 : BitVec 32 := 8#32
  let v601 : BitVec 32 := Scalar.muli v10 c8_i32_509
  let v602 : BitVec 32 := Scalar.addi c0_i32_510 v601
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_511 : BitVec 32 := 4#32
  let v603 : BitVec 32 := Scalar.muli v5 c4_i32_511
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_512 : BitVec 32 := 1#32
  let v605 : BitVec 32 := Scalar.muli v8 c1_i32_512
  let v606 : BitVec 32 := Scalar.addi v604 v605
  v606.toNat
def k0_off18 (d0 : Dev nD) : Fin 3 → Nat :=
  let c0_545 : Index := 0#32
  let c0_546 : Index := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32_544 : BitVec 32 := 512#32
  let v642 : BitVec 32 := Scalar.muli v10 c512_i32_544
  let v643 : Index := Scalar.indexCast v642
  ![0, 0, v643.toNat]
def k0_off19 (d0 : Dev nD) : Fin 3 → Nat :=
  let c1_575 : Index := 1#32
  let c0_576 : Index := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32_574 : BitVec 32 := 512#32
  let v674 : BitVec 32 := Scalar.muli v10 c512_i32_574
  let v675 : Index := Scalar.indexCast v674
  ![1, 0, v675.toNat]
def k0_off20 (d0 : Dev nD) : Fin 3 → Nat :=
  let c2_605 : Index := 2#32
  let c0_606 : Index := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32_604 : BitVec 32 := 512#32
  let v706 : BitVec 32 := Scalar.muli v10 c512_i32_604
  let v707 : Index := Scalar.indexCast v706
  ![2, 0, v707.toNat]
def k0_off21 (d0 : Dev nD) : Fin 3 → Nat :=
  let c3_635 : Index := 3#32
  let c0_636 : Index := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32_634 : BitVec 32 := 512#32
  let v738 : BitVec 32 := Scalar.muli v10 c512_i32_634
  let v739 : Index := Scalar.indexCast v738
  ![3, 0, v739.toNat]
abbrev stage0_0 : Fin 1 → Memref sig .tc .vmem S4x512x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x16x64 : Shape := ⟨4, ![4, 512, 16, 64]⟩
abbrev S1024x1024 : Shape := ⟨2, ![1024, 1024]⟩
abbrev S4x512x1024 : Shape := ⟨3, ![4, 512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x512x16x64, .bf16⟩
  | .hbm, ⟨1, _⟩ => ⟨S1024x1024, .bf16⟩
  | .hbm, ⟨2, _⟩ => ⟨S4x512x1024, .bf16⟩
  | .hbm, ⟨3, _⟩ => ⟨S4x512x1024, .f32⟩
  | .hbm, ⟨4, _⟩ => ⟨S4x512x1024, .bf16⟩
  | .hbm, ⟨5, _⟩ => ⟨S4x512x1024, .f32⟩
  | _, _ => ⟨S4x512x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ideal.Prog.lean ====
/-
# The kernel body as a sequence of chunk steps

The kernel body works on eight chunks: batch `k / 2`, row half `k % 2`. What it does with a chunk is the same for
every chunk up to offsets, so this module writes the body once more as a sequence of steps, each a function of
the chunk's number, and states that the printed body is that sequence (`body_eq`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## Peers -/

set_option backward.proofsInPublic true in
/-- The device with the other `y` coordinate. -/
def yp (c : Dev nD) : Dev nD := ⟨k0_dev1 c, k0_dev1_lt c⟩
set_option backward.proofsInPublic true in
/-- The device with the other `x` coordinate. -/
def xp (c : Dev nD) : Dev nD := ⟨k0_dev2 c, k0_dev2_lt c⟩

theorem yp_yp (c : Dev nD) : yp (yp c) = c := by revert c; decide +kernel
theorem xp_xp (c : Dev nD) : xp (xp c) = c := by revert c; decide +kernel
theorem yp_ne_xp (c : Dev nD) : yp c ≠ xp c := by revert c; decide +kernel
theorem yp_ne_self (c : Dev nD) : yp c ≠ c := by revert c; decide +kernel
theorem xp_ne_self (c : Dev nD) : xp c ≠ c := by revert c; decide +kernel

/-! ## Buffers, chunks and semaphores -/

abbrev oM : Memref sig .tc .vmem S4x512x8x64 .bf16 := Memref.whole cc0_stg0_0
abbrev wM : Memref sig .tc .vmem S512x1024 .bf16 := Memref.whole cc0_stg1_0
abbrev outM : Memref sig .tc .vmem S4x256x1024 .f32 := Memref.whole cc0_stg2_0
abbrev wbM : Memref sig .tc .vmem S512x512 .bf16 := Memref.whole cc0_scratch0
abbrev ysM : Memref sig .tc .vmem S4x256x512 .bf16 := Memref.whole cc0_scratch1
abbrev yrM : Memref sig .tc .vmem S4x256x512 .bf16 := Memref.whole cc0_scratch2
abbrev xsM : Memref sig .tc .vmem S4x256x512 .bf16 := Memref.whole cc0_scratch3
abbrev xrM : Memref sig .tc .vmem S4x256x512 .bf16 := Memref.whole cc0_scratch4

theorem coff_inb (k : Fin 8) : ∀ a, (![k.val / 2, 128 * (k.val % 2), 0] : Fin 3 → Nat) a + S1x128x512.size a ≤ S4x256x512.size a := by
  revert k; decide
theorem sem_inb (k : Fin 8) : ∀ a, (![k.val] : Fin 1 → Nat) a + S1.size a ≤ S8.size a := by revert k; decide

/-- The rectangle of chunk `k` in a `4 × 256 × 512` buffer. -/
abbrev crect (k : Fin 8) : Rect S4x256x512 := Rect.unit (s := S4x256x512) ![k.val / 2, 128 * (k.val % 2), 0] S1x128x512.size (coff_inb k)

theorem crect_words (k : Fin 8) : (crect k).WholeWords (EltTy.packing .bf16) := by revert k; decide
theorem crect_packed (k : Fin 8) : (crect k).PackedRows (EltTy.packing .bf16) := by revert k; decide

/-- Chunk `k` of a buffer, as the copies see it. -/
abbrev chunk (M : Memref sig .tc .vmem S4x256x512 .bf16) (k : Fin 8) : Memref sig .tc .vmem S128x512 .bf16 :=
  (M.slice (crect k) (fun _ => rfl)).squeeze S128x512 squeezes_S1x128x512_S128x512

/-- The four arrays of copy semaphores: sends to and arrivals from the `y` neighbour, the same for the `x` neighbour. -/
def arr : Fin 4 → DmaSems sig S8
  | 0 => cc0_scratch5 | 1 => cc0_scratch6 | 2 => cc0_scratch7 | 3 => cc0_scratch8

/-- Cell `k` of array `a`. -/
def cellS (a : Fin 4) (k : Fin 8) : DmaSem sig :=
  (((arr a).slice (Rect.unit (s := S8) ![k.val] S1.size (sem_inb k))).squeeze S_ squeezes_S1_S_).sem

/-- The barrier semaphore. -/
abbrev barS : Sem sig := (SemArray.scalar (sig.barrier 0 rfl) : Sems sig S_).sem

/-! ## The offsets of each chunk -/

/-- Where the rows that chunk `k` sends to the `y` neighbour start in the left operand. -/
def offY (d : Dev nD) : Fin 8 → Fin 4 → Nat
  | 0 => k0_off2 d 0#32 | 1 => k0_off2 d 128#32 | 2 => k0_off3 d 0#32 | 3 => k0_off3 d 128#32
  | 4 => k0_off4 d 0#32 | 5 => k0_off4 d 128#32 | 6 => k0_off5 d 0#32 | 7 => k0_off5 d 128#32
/-- Where the rows of chunk `k` that the device keeps start in the left operand. -/
def offX (d : Dev nD) : Fin 8 → Fin 4 → Nat
  | 0 => k0_off6 d 0#32 | 1 => k0_off6 d 128#32 | 2 => k0_off9 d 0#32 | 3 => k0_off9 d 128#32
  | 4 => k0_off12 d 0#32 | 5 => k0_off12 d 128#32 | 6 => k0_off15 d 0#32 | 7 => k0_off15 d 128#32
/-- Where chunk `k`'s total goes in the result. -/
def offO (d : Dev nD) : Fin 8 → Fin 3 → Nat
  | 0 => k0_off7 d | 1 => k0_off8 d | 2 => k0_off10 d | 3 => k0_off11 d
  | 4 => k0_off13 d | 5 => k0_off14 d | 6 => k0_off16 d | 7 => k0_off17 d
/-- Where batch `b` of the columns from the `x` neighbour goes in the result. -/
def offF (d : Dev nD) : Fin 4 → Fin 3 → Nat
  | 0 => k0_off18 d | 1 => k0_off19 d | 2 => k0_off20 d | 3 => k0_off21 d

/-- In closed form: the other `y` half of the rows. -/
theorem offY_eq (d : Dev nD) (k : Fin 8) : offY d k = ![k.val / 2, (128 * (k.val % 2) + 256) - 256 * ((d.val / 4) % 2), 0, 0] := by
  match k with
  | 0 => exact k0_off2_eq d 0
  | 1 => exact k0_off2_eq d 1
  | 2 => exact k0_off3_eq d 0
  | 3 => exact k0_off3_eq d 1
  | 4 => exact k0_off4_eq d 0
  | 5 => exact k0_off4_eq d 1
  | 6 => exact k0_off5_eq d 0
  | 7 => exact k0_off5_eq d 1
/-- In closed form: the device's own `y` half of the rows. -/
theorem offX_eq (d : Dev nD) (k : Fin 8) : offX d k = ![k.val / 2, 256 * ((d.val / 4) % 2) + 128 * (k.val % 2), 0, 0] := by
  match k with
  | 0 => exact k0_off6_eq d 0
  | 1 => exact k0_off6_eq d 1
  | 2 => exact k0_off9_eq d 0
  | 3 => exact k0_off9_eq d 1
  | 4 => exact k0_off12_eq d 0
  | 5 => exact k0_off12_eq d 1
  | 6 => exact k0_off15_eq d 0
  | 7 => exact k0_off15_eq d 1
/-- In closed form: the device's own `x` half of the columns. -/
theorem offO_eq (d : Dev nD) (k : Fin 8) : offO d k = ![k.val / 2, 128 * (k.val % 2), 512 * (d.val / 8)] := by
  match k with
  | 0 => exact k0_off7_eq d
  | 1 => exact k0_off8_eq d
  | 2 => exact k0_off10_eq d
  | 3 => exact k0_off11_eq d
  | 4 => exact k0_off13_eq d
  | 5 => exact k0_off14_eq d
  | 6 => exact k0_off16_eq d
  | 7 => exact k0_off17_eq d
/-- In closed form: the other `x` half of the columns. -/
theorem offF_eq (d : Dev nD) (b : Fin 4) : offF d b = ![b.val, 0, 512 - 512 * (d.val / 8)] := by
  match b with
  | 0 => exact k0_off18_eq d
  | 1 => exact k0_off19_eq d
  | 2 => exact k0_off20_eq d
  | 3 => exact k0_off21_eq d

theorem offY_inb (d : Dev nD) (k : Fin 8) : ∀ a, offY d k a + S1x128x8x64.size a ≤ S4x512x8x64.size a := by
  rw [offY_eq]; revert d k; decide +kernel
theorem offX_inb (d : Dev nD) (k : Fin 8) : ∀ a, offX d k a + S1x128x8x64.size a ≤ S4x512x8x64.size a := by
  rw [offX_eq]; revert d k; decide +kernel
theorem offO_inb (d : Dev nD) (k : Fin 8) : ∀ a, offO d k a + S1x128x512.size a ≤ S4x256x1024.size a := by
  rw [offO_eq]; revert d k; decide +kernel
theorem offF_inb (d : Dev nD) (b : Fin 4) : ∀ a, offF d b a + S1x256x512.size a ≤ S4x256x1024.size a := by
  rw [offF_eq]; revert d b; decide +kernel
theorem foff_inb (b : Fin 4) : ∀ a, (![b.val, 0, 0] : Fin 3 → Nat) a + S1x256x512.size a ≤ S4x256x512.size a := by revert b; decide

/-- The rectangles of those offsets. -/
abbrev rectW (d : Dev nD) : Rect S512x1024 := Rect.unit (s := S512x1024) (k0_off1 d) S512x512.size (k0_off1_inb d)
abbrev rectB : Rect S512x512 := Rect.unit (s := S512x512) ![0, 0] S512x512.size inb_S512x512_S512x512_0_0
abbrev rectY (d : Dev nD) (k : Fin 8) : Rect S4x512x8x64 := Rect.unit (s := S4x512x8x64) (offY d k) S1x128x8x64.size (offY_inb d k)
abbrev rectX (d : Dev nD) (k : Fin 8) : Rect S4x512x8x64 := Rect.unit (s := S4x512x8x64) (offX d k) S1x128x8x64.size (offX_inb d k)
abbrev rectO (d : Dev nD) (k : Fin 8) : Rect S4x256x1024 := Rect.unit (s := S4x256x1024) (offO d k) S1x128x512.size (offO_inb d k)
abbrev rectF (d : Dev nD) (b : Fin 4) : Rect S4x256x1024 := Rect.unit (s := S4x256x1024) (offF d b) S1x256x512.size (offF_inb d b)
abbrev rectR (b : Fin 4) : Rect S4x256x512 := Rect.unit (s := S4x256x512) ![b.val, 0, 0] S1x256x512.size (foff_inb b)

/-! ## The steps -/

abbrev PP (F : FTy → Type) : Type 1 := Prog (TpuEff nD τ sig (Elt F) Λ₀ .tc) PUnit

/-- The two barrier signals, to the `y` neighbour and to the `x` neighbour. -/
def hello (d : Dev nD) (K : PP F) : PP F :=
  (semSignalWord (yp d) barS 1#32).bind fun _ => (semSignalWord (xp d) barS 1#32).bind fun _ => K

/-- The device's column half of the right operand goes to scratch. -/
def wStore (d : Dev nD) (K : PP F) : PP F :=
  .op (.load wM (rectW d).toLoadRect (View.loadsAt_vmem h_S512x512)) fun (w : Vec F S512x512 .bf16) =>
  .op (.load wbM rectB.toLoadRect (View.loadsAt_vmem h_S512x512)) fun (_ : Vec F S512x512 .bf16) =>
  .op (.store wbM rectB (k0_pay1 w) Finset.univ
    (View.stores_vmem h_S512x512 ((Memref.isWhole_whole cc0_scratch0).storeExact_slice rfl _ packedbf16_S512x512_S512x512_0_0) (fun _ => rfl)) (.inl rfl)) fun _ => K

/-- The partial product of chunk `k` for the `y` neighbour goes to its send buffer. -/
def yStore (d : Dev nD) (k : Fin 8) (K : PP F) : PP F :=
  .op (.load oM (rectY d k).toLoadRect (View.loadsAt_vmem h_S1x128x8x64)) fun (o : Vec F S1x128x8x64 .bf16) =>
  .op (.load wbM rectB.toLoadRect (View.loadsAt_vmem h_S512x512)) fun (w : Vec F S512x512 .bf16) =>
  .op (.load ysM (crect k).toLoadRect (View.loadsAt_vmem h_S1x128x512)) fun (_ : Vec F S1x128x512 .bf16) =>
  .op (.store ysM (crect k) (k0_pay2 o w) Finset.univ
    (View.stores_vmem h_S1x128x512 ((Memref.isWhole_whole cc0_scratch1).storeExact_slice rfl _ (crect_packed k)) (fun _ => rfl)) (.inl rfl)) fun _ => K

/-- The copy of chunk `k` to the `y` neighbour starts. -/
def ySend (d : Dev nD) (k : Fin 8) (K : PP F) : PP F :=
  .op (.enqueueDma (chunk ysM k) (.remote (Dev.tc (yp d)) (chunk yrM k) (.dma (cellS 0 k))) (.dma (cellS 1 k))
    (((Memref.isWhole_whole cc0_scratch1).wordExact_slice rfl _ (crect_words k)).reshape _ _)
    (((Memref.isWhole_whole cc0_scratch2).wordExact_slice rfl _ (crect_words k)).reshape _ _) ⟨⟨rfl, Or.inl rfl⟩, trivial⟩) fun _ => K

/-- Chunk `k`'s own rows are multiplied, the `y` neighbour's partial product is awaited and added, the total goes
    to the result and, rounded, to the send buffer for the `x` neighbour. -/
def xStore (d : Dev nD) (k : Fin 8) (K : PP F) : PP F :=
  .op (.load oM (rectX d k).toLoadRect (View.loadsAt_vmem h_S1x128x8x64)) fun (o : Vec F S1x128x8x64 .bf16) =>
  .op (.load wbM rectB.toLoadRect (View.loadsAt_vmem h_S512x512)) fun (w : Vec F S512x512 .bf16) =>
  .op (.waitDma2 (cellS 1 k) (chunk ysM k) (chunk yrM k)
    (((Memref.isWhole_whole cc0_scratch1).wordExact_slice rfl _ (crect_words k)).reshape _ _)
    (((Memref.isWhole_whole cc0_scratch2).wordExact_slice rfl _ (crect_words k)).reshape _ _)) fun _ =>
  .op (.load yrM (crect k).toLoadRect (View.loadsAt_vmem h_S1x128x512)) fun (y : Vec F S1x128x512 .bf16) =>
  .op (.load outM (rectO d k).toLoadRect (View.loadsAt_vmem h_S1x128x512)) fun (_ : Vec F S1x128x512 .f32) =>
  .op (.store outM (rectO d k) (k0_pay20 o w y) Finset.univ (View.stores_vmem_bits_univ h_S1x128x512 rfl) (.inl rfl)) fun _ =>
  .op (.load xsM (crect k).toLoadRect (View.loadsAt_vmem h_S1x128x512)) fun (_ : Vec F S1x128x512 .bf16) =>
  .op (.store xsM (crect k) (k0_pay21 o w y) Finset.univ
    (View.stores_vmem h_S1x128x512 ((Memref.isWhole_whole cc0_scratch3).storeExact_slice rfl _ (crect_packed k)) (fun _ => rfl)) (.inl rfl)) fun _ => K

/-- The copy of chunk `k` to the `x` neighbour starts. -/
def xSend (d : Dev nD) (k : Fin 8) (K : PP F) : PP F :=
  .op (.enqueueDma (chunk xsM k) (.remote (Dev.tc (xp d)) (chunk xrM k) (.dma (cellS 2 k))) (.dma (cellS 3 k))
    (((Memref.isWhole_whole cc0_scratch3).wordExact_slice rfl _ (crect_words k)).reshape _ _)
    (((Memref.isWhole_whole cc0_scratch4).wordExact_slice rfl _ (crect_words k)).reshape _ _) ⟨⟨rfl, Or.inl rfl⟩, trivial⟩) fun _ => K

/-- The `x` neighbour's chunk `k` is awaited. -/
def xWait (k : Fin 8) (K : PP F) : PP F :=
  .op (.waitDma2 (cellS 3 k) (chunk xsM k) (chunk xrM k)
    (((Memref.isWhole_whole cc0_scratch3).wordExact_slice rfl _ (crect_words k)).reshape _ _)
    (((Memref.isWhole_whole cc0_scratch4).wordExact_slice rfl _ (crect_words k)).reshape _ _)) fun _ => K

/-- Batch `b` of the `x` neighbour's totals goes to the result. -/
def fStore (d : Dev nD) (b : Fin 4) (K : PP F) : PP F :=
  .op (.load xrM (rectR b).toLoadRect (View.loadsAt_vmem h_S1x256x512)) fun (v : Vec F S1x256x512 .bf16) =>
  .op (.load outM (rectF d b).toLoadRect (View.loadsAt_vmem h_S1x256x512)) fun (_ : Vec F S1x256x512 .f32) =>
  .op (.store outM (rectF d b) (k0_pay43 v) Finset.univ (View.stores_vmem_bits_univ h_S1x256x512 rfl) (.inl rfl)) fun _ => K

/-- The device's own two copies of chunk `k` have left its send buffers. -/
def sWait (k : Fin 8) (K : PP F) : PP F :=
  .op (.waitDma2 (cellS 0 k) (chunk yrM k) (chunk ysM k)
    (((Memref.isWhole_whole cc0_scratch2).wordExact_slice rfl _ (crect_words k)).reshape _ _)
    (((Memref.isWhole_whole cc0_scratch1).wordExact_slice rfl _ (crect_words k)).reshape _ _)) fun _ =>
  .op (.waitDma2 (cellS 2 k) (chunk xrM k) (chunk xsM k)
    (((Memref.isWhole_whole cc0_scratch4).wordExact_slice rfl _ (crect_words k)).reshape _ _)
    (((Memref.isWhole_whole cc0_scratch3).wordExact_slice rfl _ (crect_words k)).reshape _ _)) fun _ => K

/-! ## The body -/

/-- Chunk `k` is multiplied and sent to the `y` neighbour. -/
def ySteps (d : Dev nD) : List (Fin 8) → PP F → PP F
  | [], K => K
  | k :: ks, K => yStore d k (ySend d k (ySteps d ks K))
/-- Chunk `k` is totalled and sent to the `x` neighbour. -/
def xSteps (d : Dev nD) : List (Fin 8) → PP F → PP F
  | [], K => K
  | k :: ks, K => xStore d k (xSend d k (xSteps d ks K))
/-- The two chunks of batch `b`. -/
def kA (b : Fin 4) : Fin 8 := ⟨2 * b.val, by omega⟩
def kB (b : Fin 4) : Fin 8 := ⟨2 * b.val + 1, by omega⟩
/-- Batch `b` from the `x` neighbour is awaited, both chunks, and stored. -/
def fSteps (d : Dev nD) : List (Fin 4) → PP F → PP F
  | [], K => K
  | b :: bs, K => xWait (kA b) (xWait (kB b) (fStore d b (fSteps d bs K)))
/-- The sends of each chunk are awaited. -/
def sSteps : List (Fin 8) → PP F → PP F
  | [], K => K
  | k :: ks, K => sWait k (sSteps ks K)

/-- The body of device `d`. -/
def prog (d : Dev nD) : PP F :=
  hello d <| wStore d <| yStore d 0 <| (semWaitWord barS 2#32).bind fun _ => ySend d 0 <|
  ySteps d [1, 2, 3, 4, 5, 6, 7] <| xSteps d [0, 1, 2, 3, 4, 5, 6, 7] <|
  fSteps d [0, 1, 2, 3] <| sSteps [0, 1, 2, 3, 4, 5, 6, 7] <| .ret ⟨⟩

set_option maxRecDepth 65536 in
/-- The printed body is the sequence of steps above. -/
theorem body_eq (t : Fin cfg0.N) : bodyAt0 (F := F) t = .op .deviceId fun d => prog d := by
  rfl

end Cert.KernelIdeal.Hand

end
-- ==== Proof.Ideal.Contents.lean ====
/-
# What the buffers hold

The contents of each buffer on each device, as functions of the memory at launch: the products a device sends to
its `y` neighbour, the totals it keeps and sends to its `x` neighbour, and its result; and the facts that loads,
stores and copies of chunks read and write those contents.
-/
module

public import proofs.«01_k».proof.Proof.Ideal.Prog
public import Idealize.ShloMosaic.Lib.ValueIdxCore

@[expose] public section

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-! ## Chunks of a `4 × 256 × 512` buffer -/

/-- The chunk holding element `i`. -/
def chunkOf (i : S4x256x512.Idx) : Fin 8 := ⟨2 * (i 0).val + (i 1).val / 128, by
  have h0 : (i 0).val < 4 := (i 0).isLt
  have h1 : (i 1).val < 256 := (i 1).isLt
  omega⟩

/-- Element `i`'s place in its chunk. -/
def within (i : S4x256x512.Idx) : S1x128x512.Idx :=
  ix3 ⟨0, Nat.one_pos⟩ ⟨(i 1).val % 128, Nat.mod_lt _ (by decide)⟩ ⟨(i 2).val, (i 2).isLt⟩

/-- The buffer whose chunk `k` is `g k`. -/
def glue {α : Type} (g : Fin 8 → S1x128x512.Idx → α) : S4x256x512.Idx → α := fun i => g (chunkOf i) (within i)

theorem chunkOf_emb (k : Fin 8) (x : S1x128x512.Idx) : chunkOf ((crect k).emb x) = k := by
  have h1 : (x 1).val < 128 := (x 1).isLt
  have h0 : (x 0).val < 1 := (x 0).isLt
  apply Fin.ext
  show 2 * (k.val / 2 + 1 * (x 0).val) + (128 * (k.val % 2) + 1 * (x 1).val) / 128 = k.val
  omega

theorem within_emb (k : Fin 8) (x : S1x128x512.Idx) : within ((crect k).emb x) = x := by
  have h1 : (x 1).val < 128 := (x 1).isLt
  have h0 : (x 0).val < 1 := (x 0).isLt
  funext a
  apply Fin.ext
  fin_cases a
  · show 0 = (x 0).val; omega
  · show (128 * (k.val % 2) + 1 * (x 1).val) % 128 = (x 1).val; omega
  · show 0 + 1 * (x 2).val = (x 2).val; omega

/-- Chunk `k` of `glue g` is `g k`. -/
theorem glue_emb {α : Type} (g : Fin 8 → S1x128x512.Idx → α) (k : Fin 8) (x : S1x128x512.Idx) : glue g ((crect k).emb x) = g k x := by
  unfold glue; rw [chunkOf_emb, within_emb]

theorem mem_crect {k : Fin 8} {i : S4x256x512.Idx} : i ∈ (crect k).set ↔ chunkOf i = k := by
  constructor
  · intro h
    obtain ⟨x, rfl⟩ := LoadRect.exists_idx_of_mem _ h
    exact chunkOf_emb k x
  · rintro rfl
    rw [Rect.mem_set_unit]
    have h0 : (i 0).val < 4 := (i 0).isLt
    have h1 : (i 1).val < 256 := (i 1).isLt
    have h2 : (i 2).val < 512 := (i 2).isLt
    intro a
    fin_cases a
    · show (2 * (i 0).val + (i 1).val / 128) / 2 ≤ (i 0).val ∧ (i 0).val < (2 * (i 0).val + (i 1).val / 128) / 2 + 1; omega
    · show 128 * ((2 * (i 0).val + (i 1).val / 128) % 2) ≤ (i 1).val ∧ (i 1).val < 128 * ((2 * (i 0).val + (i 1).val / 128) % 2) + 128; omega
    · show 0 ≤ (i 2).val ∧ (i 2).val < 0 + 512; omega

theorem crect_disjoint (k k' : Fin 8) (h : k ≠ k') : Disjoint (crect k).set (crect k').set :=
  Finset.disjoint_left.mpr fun _ hi hi' => h ((mem_crect.mp hi).symm.trans (mem_crect.mp hi'))

theorem crect_cover : (Finset.univ : Finset (Fin 8)).biUnion (fun k => (crect k).set) = Finset.univ :=
  Finset.eq_univ_iff_forall.mpr fun i => Finset.mem_biUnion.mpr ⟨chunkOf i, Finset.mem_univ _, mem_crect.mpr rfl⟩

theorem kA_ne_kB (b : Fin 4) : kA b ≠ kB b := by revert b; decide

theorem mem_rectR {b : Fin 4} {i : S4x256x512.Idx} : i ∈ (rectR b).set ↔ i 0 = b := by
  rw [Rect.mem_set_unit]
  have h1 : (i 1).val < 256 := (i 1).isLt
  have h2 : (i 2).val < 512 := (i 2).isLt
  constructor
  · intro h
    have h0 : b.val ≤ (i 0).val ∧ (i 0).val < b.val + 1 := h 0
    exact Fin.ext (by omega)
  · rintro h a
    have h0 : (i 0).val = b.val := congrArg Fin.val h
    fin_cases a
    · show b.val ≤ (i 0).val ∧ (i 0).val < b.val + 1; omega
    · show 0 ≤ (i 1).val ∧ (i 1).val < 0 + 256; omega
    · show 0 ≤ (i 2).val ∧ (i 2).val < 0 + 512; omega

/-- Batch `b` is its two chunks. -/
theorem rectR_eq (b : Fin 4) : (rectR b).set = (crect (kA b)).set ∪ (crect (kB b)).set := by
  ext i
  have h0 : (i 0).val < 4 := (i 0).isLt
  have h1 : (i 1).val < 256 := (i 1).isLt
  rw [Finset.mem_union, mem_crect, mem_crect, mem_rectR]
  constructor
  · intro h
    have hb : (i 0).val = b.val := congrArg Fin.val h
    by_cases h2 : (i 1).val < 128
    · left; apply Fin.ext; show 2 * (i 0).val + (i 1).val / 128 = 2 * b.val; omega
    · right; apply Fin.ext; show 2 * (i 0).val + (i 1).val / 128 = 2 * b.val + 1; omega
  · rintro (h | h)
    · have := congrArg Fin.val h
      have : 2 * (i 0).val + (i 1).val / 128 = 2 * b.val := this
      exact Fin.ext (by omega)
    · have := congrArg Fin.val h
      have : 2 * (i 0).val + (i 1).val / 128 = 2 * b.val + 1 := this
      exact Fin.ext (by omega)

theorem rectR_disjoint (b b' : Fin 4) (h : b ≠ b') : Disjoint (rectR b).set (rectR b').set :=
  Finset.disjoint_left.mpr fun _ hi hi' => h ((mem_rectR.mp hi).symm.trans (mem_rectR.mp hi'))

theorem rectR_cover : (Finset.univ : Finset (Fin 4)).biUnion (fun b => (rectR b).set) = Finset.univ :=
  Finset.eq_univ_iff_forall.mpr fun i => Finset.mem_biUnion.mpr ⟨i 0, Finset.mem_univ _, mem_rectR.mpr rfl⟩

/-! ## The contents -/

variable (m : (ℓ : Loc nD τ sig) → Buf (Elt F) ℓ)

/-- Device `c`'s block of the left operand, staged. -/
def oC (c : Dev nD) : (cc0_stg0_0 : Ref sig .tc).ty.Contents (Elt F) :=
  (win0_0.blk (0 : Fin 1)).view.read (Elt F) (m ((c : Thread nD τ).loc main_arg0))
/-- Device `c`'s block of the right operand, staged. -/
def wC (c : Dev nD) : (cc0_stg1_0 : Ref sig .tc).ty.Contents (Elt F) :=
  (win0_1.blk (0 : Fin 1)).view.read (Elt F) (m ((c : Thread nD τ).loc main_arg1))
/-- The column half of the right operand that device `c` multiplies by. -/
def wbC (c : Dev nD) : Vec F S512x512 .bf16 := k0_pay1 (wM.view.readAt (Elt F) (rectW c).toLoadRect (wC m c))
/-- Chunk `k` of the products device `c` sends to its `y` neighbour. -/
def ysC (c : Dev nD) (k : Fin 8) : Vec F S1x128x512 .bf16 :=
  k0_pay2 (oM.view.readAt (Elt F) (rectY c k).toLoadRect (oC m c)) (wbC m c)
/-- The `y` send buffer of device `c` when filled. -/
def ysF (c : Dev nD) : Vec F S4x256x512 .bf16 := glue (ysC m c)
/-- Chunk `k` of the totals of device `c`: its own products and its `y` neighbour's. -/
def totC (c : Dev nD) (k : Fin 8) : Vec F S1x128x512 .f32 :=
  k0_pay20 (oM.view.readAt (Elt F) (rectX c k).toLoadRect (oC m c)) (wbC m c) (ysC m (yp c) k)
/-- The same rounded, as device `c` sends it to its `x` neighbour. -/
def xsC (c : Dev nD) (k : Fin 8) : Vec F S1x128x512 .bf16 :=
  k0_pay21 (oM.view.readAt (Elt F) (rectX c k).toLoadRect (oC m c)) (wbC m c) (ysC m (yp c) k)
/-- The `x` send buffer of device `c` when filled. -/
def xsF (c : Dev nD) : Vec F S4x256x512 .bf16 := glue (xsC m c)
/-- Batch `b` of the columns device `c` takes from its `x` neighbour. -/
def finC (c : Dev nD) (b : Fin 4) : Vec F S1x256x512 .f32 :=
  k0_pay43 (fun x => xsF m (xp c) ((rectR b).emb x))

/-! ## The result -/

/-- Where column `n` of the result lies in its half. -/
def halfIdx (i : S4x256x1024.Idx) : S4x256x512.Idx :=
  ix3 ⟨(i 0).val, (i 0).isLt⟩ ⟨(i 1).val, (i 1).isLt⟩ ⟨(i 2).val % 512, Nat.mod_lt _ (by decide)⟩

/-- Row and column of an element within its batch. -/
def rowIdx (j : S4x256x512.Idx) : S1x256x512.Idx :=
  ix3 ⟨0, Nat.one_pos⟩ ⟨(j 1).val, (j 1).isLt⟩ ⟨(j 2).val, (j 2).isLt⟩

/-- The result of device `c`: its own `x` half of the columns from its totals, the other half from its `x`
    neighbour's. -/
def outC (c : Dev nD) : Vec F S4x256x1024 .f32 := fun i =>
  if (i 2).val / 512 = c.val / 8 then glue (totC m c) (halfIdx i)
  else finC m c ⟨(i 0).val, (i 0).isLt⟩ (rowIdx (halfIdx i))

/-- `f` holds the result but for the chunks `ks` of the own half and the batches `bs` of the other. -/
def OutOk (c : Dev nD) (ks : List (Fin 8)) (bs : List (Fin 4)) (f : Vec F S4x256x1024 .f32) : Prop :=
  (∀ k, k ∉ ks → ∀ x, f ((rectO c k).emb x) = totC m c k x) ∧ (∀ b, b ∉ bs → ∀ x, f ((rectF c b).emb x) = finC m c b x)

theorem rectO_val (c : Dev nD) (k : Fin 8) (x : S1x128x512.Idx) :
    ((rectO c k).emb x 0).val = k.val / 2 ∧ ((rectO c k).emb x 1).val = 128 * (k.val % 2) + (x 1).val
      ∧ ((rectO c k).emb x 2).val = 512 * (c.val / 8) + (x 2).val := by
  have h0 : (x 0).val < 1 := (x 0).isLt
  have e0 : offO c k 0 = k.val / 2 := by rw [offO_eq]; rfl
  have e1 : offO c k 1 = 128 * (k.val % 2) := by rw [offO_eq]; rfl
  have e2 : offO c k 2 = 512 * (c.val / 8) := by rw [offO_eq]; rfl
  refine ⟨?_, ?_, ?_⟩
  · show offO c k 0 + 1 * (x 0).val = _; omega
  · show offO c k 1 + 1 * (x 1).val = _; omega
  · show offO c k 2 + 1 * (x 2).val = _; omega

theorem rectF_val (c : Dev nD) (b : Fin 4) (x : S1x256x512.Idx) :
    ((rectF c b).emb x 0).val = b.val ∧ ((rectF c b).emb x 1).val = (x 1).val
      ∧ ((rectF c b).emb x 2).val = (512 - 512 * (c.val / 8)) + (x 2).val := by
  have h0 : (x 0).val < 1 := (x 0).isLt
  have e0 : offF c b 0 = b.val := by rw [offF_eq]; rfl
  have e1 : offF c b 1 = 0 := by rw [offF_eq]; rfl
  have e2 : offF c b 2 = 512 - 512 * (c.val / 8) := by rw [offF_eq]; rfl
  refine ⟨?_, ?_, ?_⟩
  · show offF c b 0 + 1 * (x 0).val = _; omega
  · show offF c b 1 + 1 * (x 1).val = _; omega
  · show offF c b 2 + 1 * (x 2).val = _; omega

theorem x_lt (c : Dev nD) : c.val / 8 < 2 := by revert c; decide

/-- The rectangles of the result do not meet. -/
theorem rectO_ne (c : Dev nD) (k k' : Fin 8) (h : k ≠ k') (x : S1x128x512.Idx) : (rectO c k).emb x ∉ (rectO c k').set := by
  intro hi
  obtain ⟨y, hy⟩ := LoadRect.exists_idx_of_mem _ hi
  have h1 : (x 1).val < 128 := (x 1).isLt
  have h1' : (y 1).val < 128 := (y 1).isLt
  obtain ⟨a0, a1, -⟩ := rectO_val c k x
  obtain ⟨b0, b1, -⟩ := rectO_val c k' y
  have e : (rectO c k').emb y = (rectO c k).emb x := hy
  rw [e] at b0 b1
  exact h (Fin.ext (by omega))

theorem rectF_ne (c : Dev nD) (b b' : Fin 4) (h : b ≠ b') (x : S1x256x512.Idx) : (rectF c b).emb x ∉ (rectF c b').set := by
  intro hi
  obtain ⟨y, hy⟩ := LoadRect.exists_idx_of_mem _ hi
  obtain ⟨a0, -, -⟩ := rectF_val c b x
  obtain ⟨b0, -, -⟩ := rectF_val c b' y
  have e : (rectF c b').emb y = (rectF c b).emb x := hy
  rw [e] at b0
  exact h (Fin.ext (by omega))

theorem rectOF_ne (c : Dev nD) (k : Fin 8) (b : Fin 4) (x : S1x128x512.Idx) (y : S1x256x512.Idx) :
    (rectO c k).emb x ≠ (rectF c b).emb y := by
  intro e
  have h2 : (x 2).val < 512 := (x 2).isLt
  have h2' : (y 2).val < 512 := (y 2).isLt
  have hx := x_lt c
  obtain ⟨-, -, a⟩ := rectO_val c k x
  obtain ⟨-, -, b'⟩ := rectF_val c b y
  rw [e] at a
  omega

omit [FloatOps F] in
/-- A store to a rectangle of the result writes there; -/
theorem write_out_mem (r : Rect S4x256x1024) (f : Vec F S4x256x1024 .f32) (w : r.shape.Idx → Elt F .f32) (x : r.shape.Idx) :
    (outM.access r : View sig .tc _ _ _).write (Elt F) f w Finset.univ (r.emb x) = w x :=
  (View.write_emb_of_mem (v := outM.access r) f w (Finset.mem_univ x)).trans rfl
omit [FloatOps F] in
/-- and nowhere else. -/
theorem write_out_not (r : Rect S4x256x1024) (f : Vec F S4x256x1024 .f32) (w : r.shape.Idx → Elt F .f32) (i : S4x256x1024.Idx) (h : i ∉ r.set) :
    (outM.access r : View sig .tc _ _ _).write (Elt F) f w Finset.univ i = f i :=
  View.write_of_not_mem (v := outM.access r) f w _ (by rw [View.setOn_univ]; rw [show (outM.access r : View sig .tc _ _ _).set = r.set from View.set_slice_whole cc0_stg2_0 r]; exact h)

/-- A store of chunk `k`'s total does one chunk of the result; -/
theorem OutOk.store {c : Dev nD} {k : Fin 8} {ks : List (Fin 8)} {bs : List (Fin 4)} {f : Vec F S4x256x1024 .f32}
    (h : OutOk m c (k :: ks) bs f) :
    OutOk m c ks bs ((outM.access (rectO c k) : View sig .tc _ _ _).write (Elt F) f (totC m c k) Finset.univ) := by
  constructor
  · intro k' hk' x
    by_cases e : k' = k
    · subst e
      exact write_out_mem (rectO c k') f (totC m c k') x
    · exact (write_out_not (rectO c k) f (totC m c k) _ (rectO_ne c k' k e x)).trans (h.1 k' (by rw [List.mem_cons, not_or]; exact ⟨e, hk'⟩) x)
  · intro b hb y
    refine (write_out_not (rectO c k) f (totC m c k) _ fun hi => ?_).trans (h.2 b hb y)
    obtain ⟨x, hx⟩ := LoadRect.exists_idx_of_mem _ hi
    exact rectOF_ne c k b x y hx

/-- a store of batch `b` one batch of the other half. -/
theorem OutOk.storeF {c : Dev nD} {b : Fin 4} {ks : List (Fin 8)} {bs : List (Fin 4)} {f : Vec F S4x256x1024 .f32}
    (h : OutOk m c ks (b :: bs) f) :
    OutOk m c ks bs ((outM.access (rectF c b) : View sig .tc _ _ _).write (Elt F) f (finC m c b) Finset.univ) := by
  constructor
  · intro k hk x
    refine (write_out_not (rectF c b) f (finC m c b) _ fun hi => ?_).trans (h.1 k hk x)
    obtain ⟨y, hy⟩ := LoadRect.exists_idx_of_mem _ hi
    exact rectOF_ne c k b x y hy.symm
  · intro b' hb' y
    by_cases e : b' = b
    · subst e
      exact write_out_mem (rectF c b') f (finC m c b') y
    · exact (write_out_not (rectF c b) f (finC m c b) _ (rectF_ne c b' b e y)).trans (h.2 b' (by rw [List.mem_cons, not_or]; exact ⟨e, hb'⟩) y)

/-- With nothing left the buffer holds the result. -/
theorem OutOk.done {c : Dev nD} {f : Vec F S4x256x1024 .f32} (h : OutOk m c [] [] f) : f = outC m c := by
  funext i
  have h0 : (i 0).val < 4 := (i 0).isLt
  have h1 : (i 1).val < 256 := (i 1).isLt
  have h2 : (i 2).val < 1024 := (i 2).isLt
  have hx := x_lt c
  unfold outC
  by_cases hc : (i 2).val / 512 = c.val / 8
  · rw [if_pos hc]
    refine Eq.trans (congrArg f ?_) (h.1 (chunkOf (halfIdx i)) List.not_mem_nil (within (halfIdx i)))
    obtain ⟨a0, a1, a2⟩ := rectO_val c (chunkOf (halfIdx i)) (within (halfIdx i))
    have e : (chunkOf (halfIdx i)).val = 2 * (i 0).val + (i 1).val / 128 := rfl
    have w1 : (within (halfIdx i) 1).val = (i 1).val % 128 := rfl
    have w2 : (within (halfIdx i) 2).val = (i 2).val % 512 := rfl
    funext a
    apply Fin.ext
    fin_cases a
    · refine Eq.trans ?_ a0.symm; show (i 0).val = _; omega
    · refine Eq.trans ?_ a1.symm; show (i 1).val = _; omega
    · refine Eq.trans ?_ a2.symm; show (i 2).val = _; omega
  · rw [if_neg hc]
    refine Eq.trans (congrArg f ?_) (h.2 ⟨(i 0).val, (i 0).isLt⟩ List.not_mem_nil (rowIdx (halfIdx i)))
    obtain ⟨a0, a1, a2⟩ := rectF_val c ⟨(i 0).val, (i 0).isLt⟩ (rowIdx (halfIdx i))
    have w1 : (rowIdx (halfIdx i) 1).val = (i 1).val := rfl
    have w2 : (rowIdx (halfIdx i) 2).val = (i 2).val % 512 := rfl
    funext a
    apply Fin.ext
    fin_cases a
    · exact a0.symm
    · refine Eq.trans ?_ a1.symm; show (i 1).val = _; omega
    · refine Eq.trans ?_ a2.symm; show (i 2).val = _; omega

/-! ## What the operations read and write -/

theorem zero2 : (![0, 0] : Fin 2 → Nat) = fun _ => 0 := funext fun a => by fin_cases a <;> rfl

omit [FloatOps F] in
theorem read_wb (f : (cc0_scratch0 : Ref sig .tc).ty.Contents (Elt F)) : wbM.view.readAt (Elt F) rectB.toLoadRect f = f :=
  Memref.readAt_unit_zero (Elt F) cc0_scratch0 zero2 _ f
omit [FloatOps F] in
theorem write_wb (f w : (cc0_scratch0 : Ref sig .tc).ty.Contents (Elt F)) :
    (wbM.access rectB : View sig .tc _ _ _).write (Elt F) f w Finset.univ = w :=
  Memref.write_access_unit_zero_univ (Elt F) cc0_scratch0 zero2 _ f w

theorem read_yr (c : Dev nD) (k : Fin 8) : (yrM.access (crect k) : View sig .tc _ _ _).read (Elt F) (ysF m (yp c)) = ysC m (yp c) k :=
  funext fun x => glue_emb (ysC m (yp c)) k x

/-- A store of chunk `k` of `g` leaves that chunk as in `glue g`. -/
theorem write_ys (g : Fin 8 → Vec F S1x128x512 .bf16) (k : Fin 8) (f : (cc0_scratch1 : Ref sig .tc).ty.Contents (Elt F)) :
    ∀ i ∈ (crect k).set, (ysM.access (crect k) : View sig .tc _ _ _).write (Elt F) f (g k) Finset.univ i = glue g i := by
  intro i hi
  obtain ⟨x, rfl⟩ := LoadRect.exists_idx_of_mem _ hi
  exact (View.write_emb_of_mem (v := ysM.access (crect k)) f (g k) (Finset.mem_univ x)).trans (glue_emb g k x).symm
theorem write_xs (g : Fin 8 → Vec F S1x128x512 .bf16) (k : Fin 8) (f : (cc0_scratch3 : Ref sig .tc).ty.Contents (Elt F)) :
    ∀ i ∈ (crect k).set, (xsM.access (crect k) : View sig .tc _ _ _).write (Elt F) f (g k) Finset.univ i = glue g i := by
  intro i hi
  obtain ⟨x, rfl⟩ := LoadRect.exists_idx_of_mem _ hi
  exact (View.write_emb_of_mem (v := xsM.access (crect k)) f (g k) (Finset.mem_univ x)).trans (glue_emb g k x).symm

omit [FloatOps F] in
/-- A copied chunk holds in its place what the source holds in the same place. -/
theorem land_y (k : Fin 8) (fd : (cc0_scratch2 : Ref sig .tc).ty.Contents (Elt F)) (fs : (cc0_scratch1 : Ref sig .tc).ty.Contents (Elt F)) :
    ∀ i ∈ (chunk yrM k).view.set, (chunk yrM k).view.write (Elt F) fd ((chunk ysM k).view.read (Elt F) fs) Finset.univ i = fs i := by
  intro i hi
  obtain ⟨x, -, rfl⟩ := Finset.mem_map.mp hi
  exact (View.write_emb_of_mem (v := (chunk yrM k).view) fd _ (Finset.mem_univ x)).trans rfl
omit [FloatOps F] in
theorem land_x (k : Fin 8) (fd : (cc0_scratch4 : Ref sig .tc).ty.Contents (Elt F)) (fs : (cc0_scratch3 : Ref sig .tc).ty.Contents (Elt F)) :
    ∀ i ∈ (chunk xrM k).view.set, (chunk xrM k).view.write (Elt F) fd ((chunk xsM k).view.read (Elt F) fs) Finset.univ i = fs i := by
  intro i hi
  obtain ⟨x, -, rfl⟩ := Finset.mem_map.mp hi
  exact (View.write_emb_of_mem (v := (chunk xrM k).view) fd _ (Finset.mem_univ x)).trans rfl

end Cert.KernelIdeal.Hand

end
-- ==== Proof.Ideal.Sched.lean ====
/-
# The protocol

Every semaphore has one round. Device `c`'s barrier cell takes one unit from its `y` neighbour, with that device's
`y` landing buffer, and one from its `x` neighbour, with that device's `x` landing buffer. Each of the thirty-two copy
cells takes one landing of a chunk: an arrival cell hands its device the chunk of its landing buffer, holding what
the neighbour sent; a send cell hands the sender its chunk back.
-/
module

public import proofs.«01_k».proof.Proof.Ideal.Contents

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barCell (c : Dev nD) : GSem nD τ sig := ((c : Thread nD τ), .reg barS)
abbrev dcell (c : Dev nD) (a : Fin 4) (k : Fin 8) : GSem nD τ sig := ((c : Thread nD τ), .dma (cellS a k))

theorem cellS_val (a : Fin 4) (k : Fin 8) : (cellS a k).val = 3 + 8 * a.val + k.val := by revert a k; decide

/-- The array and the place in it of a copy semaphore. -/
def dA (s : DmaSem sig) : Fin 4 := ⟨(s.val - 3) / 8 % 4, Nat.mod_lt _ (by decide)⟩
def dK (s : DmaSem sig) : Fin 8 := ⟨(s.val - 3) % 8, Nat.mod_lt _ (by decide)⟩

theorem dA_cellS (a : Fin 4) (k : Fin 8) : dA (cellS a k) = a := by
  apply Fin.ext; show ((cellS a k).val - 3) / 8 % 4 = a.val; rw [cellS_val]; omega
theorem dK_cellS (a : Fin 4) (k : Fin 8) : dK (cellS a k) = k := by
  apply Fin.ext; show ((cellS a k).val - 3) % 8 = k.val; rw [cellS_val]; omega

/-- What the landing of one chunk adds to a copy semaphore. -/
abbrev N : ℕ := (chunk yrM 0).view.dmaCredit
theorem N_pos : 0 < N := View.dmaCredit_pos _ (by decide)

/-- The chunks, and the batches, in the order the kernel takes them. -/
abbrev L8 : List (Fin 8) := [0, 1, 2, 3, 4, 5, 6, 7]
abbrev L4 : List (Fin 4) := [0, 1, 2, 3]

/-! ## Chunks of the four buffers -/

def ysPts (c : Dev nD) (k : Fin 8) (f : Vec F S4x256x512 .bf16) : sProp 𝕄 :=
  (((c : Thread nD τ).loc cc0_scratch1) ↦[(crect k).set]{fullShare} f)
def yrPts (c : Dev nD) (k : Fin 8) (f : Vec F S4x256x512 .bf16) : sProp 𝕄 :=
  (((c : Thread nD τ).loc cc0_scratch2) ↦[(crect k).set]{fullShare} f)
def xsPts (c : Dev nD) (k : Fin 8) (f : Vec F S4x256x512 .bf16) : sProp 𝕄 :=
  (((c : Thread nD τ).loc cc0_scratch3) ↦[(crect k).set]{fullShare} f)
def xrPts (c : Dev nD) (k : Fin 8) (f : Vec F S4x256x512 .bf16) : sProp 𝕄 :=
  (((c : Thread nD τ).loc cc0_scratch4) ↦[(crect k).set]{fullShare} f)

instance ysPts_storable (c : Dev nD) (k : Fin 8) (f) : BI.Storable (upEmb : UEmb _ 𝕄) (ysPts (F := F) c k f) := by unfold ysPts; infer_instance
instance yrPts_storable (c : Dev nD) (k : Fin 8) (f) : BI.Storable (upEmb : UEmb _ 𝕄) (yrPts (F := F) c k f) := by unfold yrPts; infer_instance
instance xsPts_storable (c : Dev nD) (k : Fin 8) (f) : BI.Storable (upEmb : UEmb _ 𝕄) (xsPts (F := F) c k f) := by unfold xsPts; infer_instance
instance xrPts_storable (c : Dev nD) (k : Fin 8) (f) : BI.Storable (upEmb : UEmb _ 𝕄) (xrPts (F := F) c k f) := by unfold xrPts; infer_instance

/-! ## The schedule -/

/-- What a unit on device `c`'s barrier cell hands over: the landing buffer of the neighbour that signals. -/
def barPay (c : Dev nD) (d : Bool) : sProp 𝕄 :=
  if d then bigSep Finset.univ fun k => iprop(∃ f, xrPts (F := F) (xp c) k f) else bigSep Finset.univ fun k => iprop(∃ f, yrPts (F := F) (yp c) k f)

/-- What the landing on cell `k` of array `a` hands device `c`. -/
def dmaPay (c : Dev nD) (a : Fin 4) (k : Fin 8) : sProp 𝕄 :=
  match a with
  | 0 => ysPts c k (ysF m c)
  | 1 => yrPts c k (ysF m (yp c))
  | 2 => xsPts c k (xsF m c)
  | 3 => xrPts c k (xsF m (xp c))

instance barPay_storable (c : Dev nD) (d : Bool) : BI.Storable (upEmb : UEmb _ 𝕄) (barPay (F := F) c d) := by
  unfold barPay; split <;> infer_instance
instance dmaPay_storable (c : Dev nD) (a : Fin 4) (k : Fin 8) : BI.Storable (upEmb : UEmb _ 𝕄) (dmaPay m c a k) := by
  unfold dmaPay; split <;> infer_instance

/-- One round: a barrier cell's two units, a copy cell's one landing. -/
def rd : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with | .reg _ => barPay g.1.1 d | .dma s => dmaPay m g.1.1 (dA s) (dK s)
  amount_pos g _ _ _ := by
    cases g.2 with
    | reg _ => exact Nat.one_pos
    | dma _ => exact N_pos

instance rd_payload_storable (g : GSem nD τ sig) (r : ℕ) (d : Bool) : BI.Storable (upEmb : UEmb _ 𝕄) ((rd (F := F) m).payload g r d) := by
  obtain ⟨t, s⟩ := g
  cases s with
  | reg _ => exact barPay_storable t.1 d
  | dma s => exact dmaPay_storable m t.1 (dA s) (dK s)

section Sched
variable (c : Dev nD) (a : Fin 4) (k : Fin 8)

theorem duties_bar : (rd (F := F) m).duties (barCell c) 0 = Finset.univ := rfl
theorem duties_dma : (rd (F := F) m).duties (dcell c a k) 0 = {false} := rfl
theorem duties_later (g : GSem nD τ sig) : ∀ r, 1 ≤ r → (rd (F := F) m).duties g r = ∅ :=
  fun r hr => if_neg (by omega)
theorem amount_bar (d : Bool) : (rd (F := F) m).amount (barCell c) 0 d = 1 := rfl
theorem amount_dma (d : Bool) : (rd (F := F) m).amount (dcell c a k) 0 d = N := rfl
theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (rd (F := F) m).expect (dcell c a k) 0 = N := by
  unfold Schedule.expect Schedule.amountOf; rw [duties_dma, Finset.sum_singleton, amount_dma]
theorem payload_bar (d : Bool) : (rd (F := F) m).payload (barCell c) 0 d = barPay c d := rfl
theorem payload_dma (d : Bool) : (rd (F := F) m).payload (dcell c a k) 0 d = dmaPay m c a k := by
  show dmaPay m c (dA (cellS a k)) (dK (cellS a k)) = _; rw [dA_cellS, dK_cellS]

/-- All that a barrier cell's round hands over. -/
theorem rest_bar : bigSep ((rd (F := F) m).duties (barCell c) 0 \ ∅) (fun d => (rd (F := F) m).payload (barCell c) 0 d) = iprop(barPay c false ∗ barPay c true) := by
  rw [Finset.sdiff_empty, duties_bar, bigSep_univ_eq_bigSepL [false, true] (by decide) (by decide)]; rfl
/-- All that a copy cell's round hands over. -/
theorem rest_dma : bigSep ((rd (F := F) m).duties (dcell c a k) 0 \ ∅) (fun d => (rd (F := F) m).payload (dcell c a k) 0 d) = dmaPay m c a k := by
  rw [Finset.sdiff_empty, duties_dma, bigSep_singleton, payload_dma]

end Sched

/-! ## What is owed -/

/-- A chunk's credit owed to each of the cells named by a list, on top of `B`. -/
def owedL (cell : Fin 8 → GSem nD τ sig) : List (Fin 8) → CellTallies nD τ sig Unit → CellTallies nD τ sig Unit
  | [], B => B
  | k :: ks, B => owedL cell ks B + tallyAt (cell k) () N

/-- What device `c` owes its `x` neighbour's arrival cells before sending the chunks `ks`; -/
def OX (c : Dev nD) (ks : List (Fin 8)) : CellTallies nD τ sig Unit := owedL (dcell (xp c) 3) ks 0
/-- what it owes before sending the chunks `ks` to its `y` neighbour and all to its `x` neighbour; -/
def OY (c : Dev nD) (ks : List (Fin 8)) : CellTallies nD τ sig Unit := owedL (dcell (yp c) 1) ks (OX c L8)
/-- what it owes at launch: those and a unit on each neighbour's barrier cell. -/
def O₁ (c : Dev nD) : CellTallies nD τ sig Unit := OY c L8 + tallyAt (barCell (xp c)) () 1
def O₀ (c : Dev nD) : CellTallies nD τ sig Unit := O₁ c + tallyAt (barCell (yp c)) () 1

theorem add_tallyAt_pos {O : CellTallies nD τ sig Unit} {g' g : GSem nD τ sig} {n : ℕ} {u : Unit} (h : 0 < (O + tallyAt g' () n) g u) :
    g = g' ∨ 0 < O g u := by
  by_cases e : g = g'
  · exact .inl e
  · right
    rw [Pi.add_apply, Finsupp.add_apply, tallyAt_apply, if_neg (fun h' => e h'.1), Nat.add_zero] at h
    exact h

theorem owedL_pos {cell : Fin 8 → GSem nD τ sig} {ks : List (Fin 8)} {B : CellTallies nD τ sig Unit} {g : GSem nD τ sig} {u : Unit}
    (h : 0 < owedL cell ks B g u) : (∃ k, g = cell k) ∨ 0 < B g u := by
  induction ks with
  | nil => exact .inr h
  | cons k ks ih =>
    rcases add_tallyAt_pos h with e | h
    · exact .inl ⟨k, e⟩
    · exact ih h

theorem OX_pos {c : Dev nD} {ks : List (Fin 8)} {g : GSem nD τ sig} {u : Unit} (h : 0 < OX c ks g u) : ∃ k, g = dcell (xp c) 3 k := by
  rcases owedL_pos h with h | h
  · exact h
  · exact absurd h (Nat.lt_irrefl 0)
theorem OY_pos {c : Dev nD} {ks : List (Fin 8)} {g : GSem nD τ sig} {u : Unit} (h : 0 < OY c ks g u) :
    (∃ k, g = dcell (yp c) 1 k) ∨ ∃ k, g = dcell (xp c) 3 k := by
  rcases owedL_pos h with h | h
  · exact .inl h
  · exact .inr (OX_pos h)

/-! ## Levels -/

def L (g : GSem nD τ sig) : Finset Unit := if g.1.2 = .tc then {()} else ∅
/-- Barrier cells at 1, arrivals from the `y` neighbour at 2, from the `x` neighbour at 3, all others at 0. -/
def lvS : SemLoc sig → ℕ
  | .reg _ => 1
  | .dma s => if (s.val - 3) / 8 = 1 then 2 else if (s.val - 3) / 8 = 3 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_y (k : Fin 8) : lvS (.dma (cellS 1 k)) = 2 := by revert k; decide
theorem lv_x (k : Fin 8) : lvS (.dma (cellS 3 k)) = 3 := by revert k; decide

/-- A wait is allowed when every cell owed is above the awaited one. -/
theorem mayWait_of (c : Dev nD) (sm : SemLoc sig) (O : CellTallies nD τ sig Unit)
    (h : ∀ g u, 0 < O g u → ∃ (c' : Dev nD) (s' : SemLoc sig), g = ((c' : Thread nD τ), s') ∧ lvS sm < lvS s') :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by obtain ⟨c', s', rfl, -⟩ := h g u hg; rw [L_tc]; exact Finset.mem_singleton_self _)
    (fun p hp => by rw [Finset.mem_singleton.mp hp]; exact Nat.le_refl _)
    (fun g u hg => by obtain ⟨c', s', rfl, h'⟩ := h g u hg; exact h')

theorem mayWait_bar (c : Dev nD) : (levAts L lv : sProp 𝕄) ⊢ MayWait (c : Thread nD τ) (.reg barS) () (OY c L8) :=
  mayWait_of c _ _ fun g u hg => by
    rcases OY_pos hg with ⟨k, rfl⟩ | ⟨k, rfl⟩
    · exact ⟨_, _, rfl, by rw [lv_y]; decide⟩
    · exact ⟨_, _, rfl, by rw [lv_x]; decide⟩
theorem mayWait_y (c : Dev nD) (k : Fin 8) (ks : List (Fin 8)) : (levAts L lv : sProp 𝕄) ⊢ MayWait (c : Thread nD τ) (.dma (cellS 1 k)) () (OX c ks) :=
  mayWait_of c _ _ fun g u hg => by
    obtain ⟨k', rfl⟩ := OX_pos hg
    exact ⟨_, _, rfl, by rw [lv_y, lv_x]; decide⟩
/-- A staging copy, whatever the device owes. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have hq' : lvS (.dma q) = 0 := by
    show (if (q.val - 3) / 8 = 1 then 2 else if (q.val - 3) / 8 = 3 then 3 else 0) = 0
    rw [show q.val - 3 = 0 by omega]; rfl
  refine mayWait_of c _ _ fun g u hg => ?_
  rcases hO with rfl | rfl
  · rcases add_tallyAt_pos hg with rfl | hg
    · exact ⟨_, _, rfl, by rw [hq']; decide⟩
    rcases add_tallyAt_pos hg with rfl | hg
    · exact ⟨_, _, rfl, by rw [hq']; decide⟩
    rcases OY_pos hg with ⟨k, rfl⟩ | ⟨k, rfl⟩
    · exact ⟨_, _, rfl, by rw [hq', lv_y]; decide⟩
    · exact ⟨_, _, rfl, by rw [hq', lv_x]; decide⟩
  · exact absurd hg (Nat.lt_irrefl 0)

/-! ## The cells' names and the records every device shares -/

/-- A device's cells: its barrier cell and its copy cells. -/
abbrev Cix : Type := Option (Fin 4 × Fin 8)
def csem : Cix → SemLoc sig
  | none => .reg barS
  | some ak => .dma (cellS ak.1 ak.2)
abbrev kcell (ck : Dev nD × Cix) : GSem nD τ sig := ((ck.1 : Thread nD τ), csem ck.2)

/-- Every cell's invariant, and that every cell is at round 0. -/
def records (K : Dev nD × Cix → ℕ) : sProp 𝕄 :=
  iprop((bigSep Finset.univ fun ck : Dev nD × Cix => cellInv ER (rd m) (K ck) (kcell ck))
    ∗ bigSep Finset.univ fun ck : Dev nD × Cix => reached ER (kcell ck) 0)

instance records_persistent (K : Dev nD × Cix → ℕ) : BI.Persistent (records m K) := by unfold records; infer_instance

theorem inv_bar (K : Dev nD × Cix → ℕ) (c : Dev nD) : records m K ⊢ cellInv ER (rd m) (K (c, none)) (barCell c) :=
  sep_elim_left.trans (bigSep_elim (Finset.mem_univ (c, (none : Cix))))
theorem inv_dma (K : Dev nD × Cix → ℕ) (c : Dev nD) (a : Fin 4) (k : Fin 8) : records m K ⊢ cellInv ER (rd m) (K (c, some (a, k))) (dcell c a k) :=
  sep_elim_left.trans (bigSep_elim (Finset.mem_univ (c, (some (a, k) : Cix))))
theorem reached_bar (K : Dev nD × Cix → ℕ) (c : Dev nD) : records m K ⊢ reached ER (barCell c) 0 :=
  sep_elim_right.trans (bigSep_elim (Finset.mem_univ (c, (none : Cix))))
theorem reached_dma (K : Dev nD × Cix → ℕ) (c : Dev nD) (a : Fin 4) (k : Fin 8) : records m K ⊢ reached ER (dcell c a k) 0 :=
  sep_elim_right.trans (bigSep_elim (Finset.mem_univ (c, (some (a, k) : Cix))))

end Cert.KernelIdeal.Hand

end
-- ==== Proof.Ideal.Steps.lean ====
/-
# What each step does

One lemma for each step of the body, at a symbolic device and a symbolic chunk: what the step takes, what it gives
back, and what the buffers hold.
-/
module

public import proofs.«01_k».proof.Proof.Ideal.Sched

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
abbrev 𝒱₀ : Variants := Variants.none

variable (m : (ℓ : Loc nD τ sig) → Buf (Elt F) ℓ)

/-- The weakest precondition of a program of device `c`. -/
abbrev WP (c : Dev nD) (P : PP F) (Q : PUnit → sProp 𝕄) : sProp 𝕄 :=
  wp frame (wpE (defs₀ (F := F)) 𝒱₀ (c : Thread nD τ) none) Set.univ P Q

/-- Device `c` owes `O`. -/
def ownO (c : Dev nD) (O : CellTallies nD τ sig Unit) : sProp 𝕄 := iprop(∃ W, owes (c : Thread nD τ) O W)

/-- The operands, staged, and the result's staging buffer. -/
def oPts (c : Dev nD) : sProp 𝕄 := (((c : Thread nD τ).loc cc0_stg0_0) ↦{fullShare} (oC m c))
def wPts (c : Dev nD) : sProp 𝕄 := (((c : Thread nD τ).loc cc0_stg1_0) ↦{fullShare} (wC m c))
def wbPts (c : Dev nD) (f : Vec F S512x512 .bf16) : sProp 𝕄 := (((c : Thread nD τ).loc cc0_scratch0) ↦{fullShare} f)
/-- The result's staging buffer, done but for the chunks `ks` and the batches `bs`. -/
def outP (c : Dev nD) (ks : List (Fin 8)) (bs : List (Fin 4)) : sProp 𝕄 :=
  iprop(∃ f : Vec F S4x256x1024 .f32, ⌜OutOk m c ks bs f⌝ ∗ (((c : Thread nD τ).loc cc0_stg2_0) ↦{fullShare} f))

/-! ## Waiting on a copy cell, and a copy -/

/-- Waiting for a chunk on device `c`'s cell `(a, k)` hands over what the landing left there; the cell closes. -/
theorem wp_wait_chunk (K : Dev nD × Cix → ℕ) (c : Dev nD) (a : Fin 4) (k : Fin 8) (Ms Md : Memref sig .tc .vmem S4x256x512 .bf16)
    {hsrc : (chunk Ms k).view.WordExact} {hdst : (chunk Md k).view.WordExact} (hN : (chunk Md k).view.dmaCredit = N)
    (O : CellTallies nD τ sig Unit) (hmay : (levAts L lv : sProp 𝕄) ⊢ MayWait (c : Thread nD τ) (.dma (cellS a k)) () O)
    (P : PUnit → PP F) (Q : PUnit → sProp 𝕄) :
    iprop(records m K ∗ levAts L lv ∗ cred (tallyAt (dcell c a k) () N) ∗ ownO c O ∗ atPos ER (dcell c a k) 0 ∅ 0
      ∗ ((ownO c O ∗ dmaPay m c a k ∗ semVal (dcell c a k) 0) -∗ WP c (P ⟨⟩) Q))
    ⊢ WP c (.op (.waitDma2 (cellS a k) (chunk Ms k) (chunk Md k) hsrc hdst) P) Q := by
  rw [← hN]
  iintro ⟨#HR, #Hlev, Hc, HO, Hat, Hk⟩
  unfold ownO
  icases HO with ⟨%W, HO⟩
  ihave #HI := (inv_dma m K c a k) $$ HR
  iapply (Rounds.wp_wait_rest_token 𝒱₀ ER (rd m) (c : Thread nD τ) none (κ := K (c, some (a, k)))
    (wpE_waitDma2_eq 𝒱₀ (c : Thread nD τ) none Set.univ) (Set.mem_univ _) () (O := O) (W := W)
    (R := 0) (m := 0) (T := ∅) (by rw [Nat.zero_add]; exact hN.trans (expect_dma m c a k).symm)) $$ [Hc HO Hat]
  · isplitr; · iexact HI
    isplitl [Hc]; · iexact Hc
    isplitl [HO]; · iexact HO
    isplitr; · iapply hmay; iexact Hlev
    iexact Hat
  iintro ⟨HO, Hat, -, Hpay⟩
  ihave Hp := (Entails.of_eq (rest_dma m c a k)) $$ Hpay
  imod (Rounds.cell_close ER (rd m) (Set.mem_univ (K (c, some (a, k)))) (fun h => h) (R := 0 + 1) (duties_later m (dcell c a k))) $$ [Hat] with Hz
  · isplitr; · iexact HI
    iexact Hat
  iapply Hk
  isplitl [HO]; · iexists _; iexact HO
  isplitl [Hp] <;> iassumption

/-- A copy of chunk `k` from device `c`'s buffer `Ms`, holding `fs`, to the buffer `Md` of the device `p`, announced on
    `c`'s cell `(a, k)` and `p`'s cell `(b, k)`. -/
theorem wp_send_chunk (K : Dev nD × Cix → ℕ) (c p : Dev nD) (a b : Fin 4) (k : Fin 8) (Ms Md : Memref sig .tc .vmem S4x256x512 .bf16)
    (fs : Buf (Elt F) ((chunk Ms k).view.loc (c : Thread nD τ))) (fd : Buf (Elt F) ((chunk Md k).view.loc (p : Thread nD τ)))
    {hsc : (chunk Md k).view.ref.isScScratch = false} {hsrc : (chunk Ms k).view.WordExact} {hdst : (chunk Md k).view.WordExact}
    {hsem : DmaTarget.Typed .vmem (.dma (cellS b k)) (.remote (p : Thread nD τ) (chunk Md k) (.dma (cellS a k)) hsc)}
    (hN : (chunk Md k).view.amount (.dma (cellS b k)) = N)
    (hp₁ : ((chunk Ms k).view.loc (c : Thread nD τ) ↦[(chunk Ms k).view.set]{fullShare} fs) ⊢ dmaPay m c a k)
    (hp₂ : ((chunk Md k).view.loc (p : Thread nD τ) ↦[(chunk Md k).view.set]{fullShare}
        ((chunk Md k).view.write (Elt F) fd ((chunk Ms k).view.read (Elt F) fs) Finset.univ)) ⊢ dmaPay m p b k)
    (O : CellTallies nD τ sig Unit) (P : PUnit → PP F) (Q : PUnit → sProp 𝕄) :
    iprop(records m K ∗ ((chunk Ms k).view.loc (c : Thread nD τ) ↦[(chunk Ms k).view.set]{fullShare} fs)
      ∗ ((chunk Md k).view.loc (p : Thread nD τ) ↦[(chunk Md k).view.set]{fullShare} fd)
      ∗ ownO c (O + tallyAt (dcell p b k) () N) ∗ dutyTok ER (dcell c a k) 0 false ∗ dutyTok ER (dcell p b k) 0 false
      ∗ ((cred (tallyAt (dcell c a k) () N) ∗ ownO c O) -∗ WP c (P ⟨⟩) Q))
    ⊢ WP c (.op (.enqueueDma (chunk Ms k) (.remote (p : Thread nD τ) (chunk Md k) (.dma (cellS a k)) hsc) (.dma (cellS b k)) hsrc hdst hsem) P) Q := by
  iintro ⟨#HR, Hs, Hd, HO, Ht₁, Ht₂, Hk⟩
  unfold ownO
  icases HO with ⟨%W, HO⟩
  iapply (Rounds.wp_send_pointsTo 𝒱₀ ER (rd m) (c : Thread nD τ) none (κ₁ := K (c, some (a, k))) (κ₂ := K (p, some (b, k)))
    (r₁ := 0) (r₂ := 0) (d₁ := false) (d₂ := false) (fd := fd)
    (by rw [duties_dma]; exact Finset.mem_singleton_self _) (by rw [duties_dma]; exact Finset.mem_singleton_self _)
    () () N hN (amount_dma m c a k false) (amount_dma m p b k false) O rfl (W := W)
    (by rw [payload_dma]; exact hp₁) (by rw [payload_dma]; exact hp₂)) $$ [Hs Hd HO Ht₁ Ht₂]
  · isplitr; · iapply (inv_dma m K c a k); iexact HR
    isplitr; · iapply (inv_dma m K p b k); iexact HR
    isplitl [Hs]; · iexact Hs
    isplitl [Hd]; · iexact Hd
    isplitl [HO]; · iexact HO
    isplitl [Ht₁]; · iexact Ht₁
    isplitr; · iapply (reached_dma m K c a k); iexact HR
    isplitl [Ht₂]; · iexact Ht₂
    iapply (reached_dma m K p b k); iexact HR
  iintro ⟨Hc, HO⟩
  iapply Hk
  isplitl [Hc]; · iexact Hc
  iexists _; iexact HO

/-! ## The steps -/

theorem set_ys (k : Fin 8) : (chunk ysM k).view.set = (crect k).set := (View.set_reshape _ _).trans (View.set_slice_whole cc0_scratch1 (crect k))
theorem set_yr (k : Fin 8) : (chunk yrM k).view.set = (crect k).set := (View.set_reshape _ _).trans (View.set_slice_whole cc0_scratch2 (crect k))
theorem set_xs (k : Fin 8) : (chunk xsM k).view.set = (crect k).set := (View.set_reshape _ _).trans (View.set_slice_whole cc0_scratch3 (crect k))
theorem set_xr (k : Fin 8) : (chunk xrM k).view.set = (crect k).set := (View.set_reshape _ _).trans (View.set_slice_whole cc0_scratch4 (crect k))

/-- The chunks, as the copies see them. -/
theorem ysPts_eq (c : Dev nD) (k : Fin 8) (f : Vec F S4x256x512 .bf16) :
    ysPts c k f = ((chunk ysM k).view.loc (c : Thread nD τ) ↦[(chunk ysM k).view.set]{fullShare} f) := by unfold ysPts; rw [set_ys]
theorem yrPts_eq (c : Dev nD) (k : Fin 8) (f : Vec F S4x256x512 .bf16) :
    yrPts c k f = ((chunk yrM k).view.loc (c : Thread nD τ) ↦[(chunk yrM k).view.set]{fullShare} f) := by unfold yrPts; rw [set_yr]
theorem xsPts_eq (c : Dev nD) (k : Fin 8) (f : Vec F S4x256x512 .bf16) :
    xsPts c k f = ((chunk xsM k).view.loc (c : Thread nD τ) ↦[(chunk xsM k).view.set]{fullShare} f) := by unfold xsPts; rw [set_xs]
theorem xrPts_eq (c : Dev nD) (k : Fin 8) (f : Vec F S4x256x512 .bf16) :
    xrPts c k f = ((chunk xrM k).view.loc (c : Thread nD τ) ↦[(chunk xrM k).view.set]{fullShare} f) := by unfold xrPts; rw [set_xr]

/-- The column half of the right operand is stored. -/
theorem wp_wStore (c : Dev nD) (P : PP F) (Q : PUnit → sProp 𝕄) :
    iprop(wPts m c ∗ (∃ f, wbPts c f) ∗ ((wPts m c ∗ wbPts c (wbC m c)) -∗ WP c P Q)) ⊢ WP c (wStore c P) Q := by
  unfold wPts wbPts wbC wStore
  iintro ⟨Hw, ⟨%f, Hb⟩, Hk⟩
  iapply (wp_load 𝒱₀ (c : Thread nD τ) none Set.univ (m := wM) (Finset.subset_univ _)) $$ Hw; iintro Hw
  iapply (wp_load 𝒱₀ (c : Thread nD τ) none Set.univ (m := wbM) (Finset.subset_univ _)) $$ Hb; iintro Hb
  iapply (wp_store 𝒱₀ (c : Thread nD τ) none Set.univ (m := wbM) (r := rectB) (Mk := Finset.univ) (Finset.subset_univ _)) $$ Hb; iintro Hb
  rw [write_wb]
  iapply Hk
  isplitl [Hw] <;> iassumption

/-- The operands the chunk steps read. -/
def keep (c : Dev nD) : sProp 𝕄 := iprop(oPts m c ∗ wbPts c (wbC m c))

/-- The products of chunk `k` for the `y` neighbour are stored. -/
theorem wp_yStore (c : Dev nD) (k : Fin 8) (P : PP F) (Q : PUnit → sProp 𝕄) :
    iprop(keep m c ∗ (∃ f, ysPts c k f) ∗ ((keep m c ∗ ysPts c k (ysF m c)) -∗ WP c P Q)) ⊢ WP c (yStore c k P) Q := by
  unfold keep oPts wbPts ysPts yStore
  iintro ⟨⟨Ho, Hb⟩, ⟨%f, Hs⟩, Hk⟩
  iapply (wp_load 𝒱₀ (c : Thread nD τ) none Set.univ (m := oM) (Finset.subset_univ _)) $$ Ho; iintro Ho
  iapply (wp_load 𝒱₀ (c : Thread nD τ) none Set.univ (m := wbM) (Finset.subset_univ _)) $$ Hb; iintro Hb
  rw [read_wb]
  iapply (wp_load_rect 𝒱₀ (c : Thread nD τ) none Set.univ (m := ysM) (r := crect k) (S := (crect k).set) (View.set_slice_whole cc0_scratch1 (crect k)).subset) $$ Hs; iintro Hs
  iapply (wp_store 𝒱₀ (c : Thread nD τ) none Set.univ (m := ysM) (r := crect k) (Mk := Finset.univ) (S := (crect k).set)
    (by rw [View.setOn_univ]; exact (View.set_slice_whole cc0_scratch1 (crect k)).subset)) $$ Hs; iintro Hs
  iapply Hk
  isplitl [Ho Hb]; · isplitl [Ho] <;> iassumption
  ihave H := (Entails.of_eq (pointsTo_congr (write_ys (ysC m c) k f))) $$ Hs
  iexact H

/-- Chunk `k` goes to the `y` neighbour. -/
theorem wp_ySend (K : Dev nD × Cix → ℕ) (c : Dev nD) (k : Fin 8) (ks : List (Fin 8)) (P : PP F) (Q : PUnit → sProp 𝕄) :
    iprop(records m K ∗ ysPts c k (ysF m c) ∗ (∃ f, yrPts (yp c) k f) ∗ ownO c (OY c (k :: ks))
      ∗ dutyTok ER (dcell c 0 k) 0 false ∗ dutyTok ER (dcell (yp c) 1 k) 0 false
      ∗ ((cred (tallyAt (dcell c 0 k) () N) ∗ ownO c (OY c ks)) -∗ WP c P Q)) ⊢ WP c (ySend c k P) Q := by
  unfold ySend
  iintro ⟨HR, Hs, ⟨%fd, Hd⟩, H⟩
  ihave Hs := (Entails.of_eq (ysPts_eq c k _)) $$ Hs
  ihave Hd := (Entails.of_eq (yrPts_eq (yp c) k fd)) $$ Hd
  iapply (wp_send_chunk m K c (yp c) 0 1 k ysM yrM (ysF m c) fd rfl (by rw [← ysPts_eq]; exact BI.Entails.refl _)
    (by rw [pointsTo_congr (land_y k fd (ysF m c)), ← yrPts_eq]; unfold dmaPay; rw [yp_yp]) (OY c ks) (fun _ => P) Q)
  isplitl [HR]; · iexact HR
  isplitl [Hs]; · iexact Hs
  isplitl [Hd]; · iexact Hd
  iexact H

/-- Chunk `k` goes to the `x` neighbour. -/
theorem wp_xSend (K : Dev nD × Cix → ℕ) (c : Dev nD) (k : Fin 8) (ks : List (Fin 8)) (P : PP F) (Q : PUnit → sProp 𝕄) :
    iprop(records m K ∗ xsPts c k (xsF m c) ∗ (∃ f, xrPts (xp c) k f) ∗ ownO c (OX c (k :: ks))
      ∗ dutyTok ER (dcell c 2 k) 0 false ∗ dutyTok ER (dcell (xp c) 3 k) 0 false
      ∗ ((cred (tallyAt (dcell c 2 k) () N) ∗ ownO c (OX c ks)) -∗ WP c P Q)) ⊢ WP c (xSend c k P) Q := by
  unfold xSend
  iintro ⟨HR, Hs, ⟨%fd, Hd⟩, H⟩
  ihave Hs := (Entails.of_eq (xsPts_eq c k _)) $$ Hs
  ihave Hd := (Entails.of_eq (xrPts_eq (xp c) k fd)) $$ Hd
  iapply (wp_send_chunk m K c (xp c) 2 3 k xsM xrM (xsF m c) fd rfl (by rw [← xsPts_eq]; exact BI.Entails.refl _)
    (by rw [pointsTo_congr (land_x k fd (xsF m c)), ← xrPts_eq]; unfold dmaPay; rw [xp_xp]) (OX c ks) (fun _ => P) Q)
  isplitl [HR]; · iexact HR
  isplitl [Hs]; · iexact Hs
  isplitl [Hd]; · iexact Hd
  iexact H

/-- The total of chunk `k`: the `y` neighbour's products are awaited, the total goes to the result and the send buffer. -/
theorem wp_xStore (K : Dev nD × Cix → ℕ) (c : Dev nD) (k : Fin 8) (ks : List (Fin 8)) (bs : List (Fin 4)) (O : CellTallies nD τ sig Unit)
    (hmay : (levAts L lv : sProp 𝕄) ⊢ MayWait (c : Thread nD τ) (.dma (cellS 1 k)) () O) (P : PP F) (Q : PUnit → sProp 𝕄) :
    iprop(records m K ∗ levAts L lv ∗ keep m c ∗ outP m c (k :: ks) bs ∗ (∃ f, xsPts c k f) ∗ ownO c O
      ∗ cred (tallyAt (dcell c 1 k) () N) ∗ atPos ER (dcell c 1 k) 0 ∅ 0
      ∗ ((keep m c ∗ outP m c ks bs ∗ xsPts c k (xsF m c) ∗ ownO c O ∗ yrPts c k (ysF m (yp c)) ∗ semVal (dcell c 1 k) 0) -∗ WP c P Q))
    ⊢ WP c (xStore c k P) Q := by
  unfold keep oPts wbPts xsPts outP xStore
  iintro ⟨#HR, #Hlev, ⟨Ho, Hb⟩, ⟨%g, %hg, Hout⟩, ⟨%f, Hs⟩, HO, Hc, Hat, Hk⟩
  iapply (wp_load 𝒱₀ (c : Thread nD τ) none Set.univ (m := oM) (Finset.subset_univ _)) $$ Ho; iintro Ho
  iapply (wp_load 𝒱₀ (c : Thread nD τ) none Set.univ (m := wbM) (Finset.subset_univ _)) $$ Hb; iintro Hb
  rw [read_wb]
  iapply (wp_wait_chunk m K c 1 k ysM yrM rfl O hmay)
  isplitr; · iexact HR
  isplitr; · iexact Hlev
  isplitl [Hc]; · iexact Hc
  isplitl [HO]; · iexact HO
  isplitl [Hat]; · iexact Hat
  iintro ⟨HO, Hy, Hz⟩
  ihave Hy := (Entails.of_eq (show dmaPay m c 1 k = yrPts c k (ysF m (yp c)) from rfl)) $$ Hy
  unfold yrPts
  iapply (wp_load_rect 𝒱₀ (c : Thread nD τ) none Set.univ (m := yrM) (r := crect k) (S := (crect k).set) (View.set_slice_whole cc0_scratch2 (crect k)).subset) $$ Hy; iintro Hy
  rw [read_yr]
  iapply (wp_load 𝒱₀ (c : Thread nD τ) none Set.univ (m := outM) (Finset.subset_univ _)) $$ Hout; iintro Hout
  iapply (wp_store 𝒱₀ (c : Thread nD τ) none Set.univ (m := outM) (r := rectO c k) (Mk := Finset.univ) (Finset.subset_univ _)) $$ Hout; iintro Hout
  iapply (wp_load_rect 𝒱₀ (c : Thread nD τ) none Set.univ (m := xsM) (r := crect k) (S := (crect k).set) (View.set_slice_whole cc0_scratch3 (crect k)).subset) $$ Hs; iintro Hs
  iapply (wp_store 𝒱₀ (c : Thread nD τ) none Set.univ (m := xsM) (r := crect k) (Mk := Finset.univ) (S := (crect k).set)
    (by rw [View.setOn_univ]; exact (View.set_slice_whole cc0_scratch3 (crect k)).subset)) $$ Hs; iintro Hs
  iapply Hk
  isplitl [Ho Hb]; · isplitl [Ho] <;> iassumption
  isplitl [Hout]
  · iexists _
    isplitr; · ipureintro; exact OutOk.store m hg
    iexact Hout
  isplitl [Hs]
  · ihave H := (Entails.of_eq (pointsTo_congr (write_xs (xsC m c) k f))) $$ Hs
    iexact H
  isplitl [HO]; · iexact HO
  isplitl [Hy] <;> iassumption

/-- The `x` neighbour's chunk `k` is awaited. -/
theorem wp_xWait (K : Dev nD × Cix → ℕ) (c : Dev nD) (k : Fin 8) (P : PP F) (Q : PUnit → sProp 𝕄) :
    iprop(records m K ∗ levAts L lv ∗ ownO c 0 ∗ cred (tallyAt (dcell c 3 k) () N) ∗ atPos ER (dcell c 3 k) 0 ∅ 0
      ∗ ((ownO c 0 ∗ xrPts c k (xsF m (xp c)) ∗ semVal (dcell c 3 k) 0) -∗ WP c P Q)) ⊢ WP c (xWait k P) Q := by
  unfold xWait
  iintro ⟨HR, Hlev, HO, Hc, Hat, Hk⟩
  iapply (wp_wait_chunk m K c 3 k xsM xrM rfl 0 (by rw [MayWait_zero]; iintro -; iempintro))
  isplitl [HR]; · iexact HR
  isplitl [Hlev]; · iexact Hlev
  isplitl [Hc]; · iexact Hc
  isplitl [HO]; · iexact HO
  isplitl [Hat]; · iexact Hat
  iexact Hk

/-- The two chunks of a batch together. -/
theorem xrPts_batch (c : Dev nD) (b : Fin 4) (f : Vec F S4x256x512 .bf16) :
    iprop(xrPts c (kA b) f ∗ xrPts c (kB b) f) = (((c : Thread nD τ).loc cc0_scratch4) ↦[(rectR b).set]{fullShare} f : sProp 𝕄) := by
  unfold xrPts
  rw [rectR_eq]
  exact (Idealize.SL.BI.Entails.antisymm (pointsTo_union (ℓ := (c : Thread nD τ).loc cc0_scratch4) (crect_disjoint _ _ (kA_ne_kB b))).1
    (pointsTo_union (ℓ := (c : Thread nD τ).loc cc0_scratch4) (crect_disjoint _ _ (kA_ne_kB b))).2).symm

/-- Batch `b` from the `x` neighbour goes to the result. -/
theorem wp_fStore (c : Dev nD) (b : Fin 4) (ks : List (Fin 8)) (bs : List (Fin 4)) (P : PP F) (Q : PUnit → sProp 𝕄) :
    iprop(outP m c ks (b :: bs) ∗ xrPts c (kA b) (xsF m (xp c)) ∗ xrPts c (kB b) (xsF m (xp c))
      ∗ ((outP m c ks bs ∗ (((c : Thread nD τ).loc cc0_scratch4) ↦[(rectR b).set]{fullShare} (xsF m (xp c)))) -∗ WP c P Q))
    ⊢ WP c (fStore c b P) Q := by
  unfold outP fStore
  iintro ⟨⟨%g, %hg, Hout⟩, H1, H2, Hk⟩
  ihave H := (Entails.of_eq (xrPts_batch c b (xsF m (xp c)))) $$ [H1 H2]
  · isplitl [H1] <;> iassumption
  iapply (wp_load_rect 𝒱₀ (c : Thread nD τ) none Set.univ (m := xrM) (r := rectR b) (S := (rectR b).set) (View.set_slice_whole cc0_scratch4 (rectR b)).subset) $$ H; iintro H
  iapply (wp_load 𝒱₀ (c : Thread nD τ) none Set.univ (m := outM) (Finset.subset_univ _)) $$ Hout; iintro Hout
  iapply (wp_store 𝒱₀ (c : Thread nD τ) none Set.univ (m := outM) (r := rectF c b) (Mk := Finset.univ) (Finset.subset_univ _)) $$ Hout; iintro Hout
  iapply Hk
  isplitl [Hout]
  · iexists _
    isplitr; · ipureintro; exact OutOk.storeF m hg
    iexact Hout
  iexact H

/-- The two copies of chunk `k` have left. -/
theorem wp_sWait (K : Dev nD × Cix → ℕ) (c : Dev nD) (k : Fin 8) (P : PP F) (Q : PUnit → sProp 𝕄) :
    iprop(records m K ∗ levAts L lv ∗ ownO c 0 ∗ cred (tallyAt (dcell c 0 k) () N) ∗ atPos ER (dcell c 0 k) 0 ∅ 0
      ∗ cred (tallyAt (dcell c 2 k) () N) ∗ atPos ER (dcell c 2 k) 0 ∅ 0
      ∗ ((ownO c 0 ∗ ysPts c k (ysF m c) ∗ xsPts c k (xsF m c) ∗ semVal (dcell c 0 k) 0 ∗ semVal (dcell c 2 k) 0) -∗ WP c P Q))
    ⊢ WP c (sWait k P) Q := by
  unfold sWait
  iintro ⟨#HR, #Hlev, HO, Hc, Hat, Hc', Hat', Hk⟩
  iapply (wp_wait_chunk m K c 0 k yrM ysM rfl 0 (by rw [MayWait_zero]; iintro -; iempintro))
  isplitr; · iexact HR
  isplitr; · iexact Hlev
  isplitl [Hc]; · iexact Hc
  isplitl [HO]; · iexact HO
  isplitl [Hat]; · iexact Hat
  iintro ⟨HO, Hs, Hz⟩
  iapply (wp_wait_chunk m K c 2 k xrM xsM rfl 0 (by rw [MayWait_zero]; iintro -; iempintro))
  isplitr; · iexact HR
  isplitr; · iexact Hlev
  isplitl [Hc']; · iexact Hc'
  isplitl [HO]; · iexact HO
  isplitl [Hat']; · iexact Hat'
  iintro ⟨HO, Hs', Hz'⟩
  iapply Hk
  isplitl [HO]; · iexact HO
  isplitl [Hs]; · iapply (Entails.of_eq (show dmaPay m c 0 k = ysPts c k (ysF m c) from rfl)); iexact Hs
  isplitl [Hs']; · iapply (Entails.of_eq (show dmaPay m c 2 k = xsPts c k (xsF m c) from rfl)); iexact Hs'
  isplitl [Hz] <;> iassumption

end Cert.KernelIdeal.Hand

end
-- ==== Proof.Ideal.Body.lean ====
/-
# What the body does

The steps in sequence, from what a device holds at its start to what it holds at its end.
-/
module

public import proofs.«01_k».proof.Proof.Ideal.Steps
public import Idealize.ShloMosaic.Lib.Pipeline.BigSepL

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The barrier -/

/-- A conjunct for every chunk. -/
abbrev all8 (Φ : Fin 8 → sProp 𝕄) : sProp 𝕄 := bigSep Finset.univ Φ

theorem barPay_y (c : Dev nD) : (all8 fun k => iprop(∃ f, yrPts (F := F) c k f)) = (rd m).payload (barCell (yp c)) 0 false := by
  rw [payload_bar]; unfold barPay; rw [if_neg (by decide), yp_yp]
theorem barPay_x (c : Dev nD) : (all8 fun k => iprop(∃ f, xrPts (F := F) c k f)) = (rd m).payload (barCell (xp c)) 0 true := by
  rw [payload_bar]; unfold barPay; rw [if_pos rfl, xp_xp]
/-- What the two units on a barrier cell hand over together. -/
theorem bar_brings (c : Dev nD) : bigSep ((rd (F := F) m).duties (barCell c) 0 \ ∅) (fun d => (rd (F := F) m).payload (barCell c) 0 d)
    = iprop((all8 fun k => iprop(∃ f, yrPts (F := F) (yp c) k f)) ∗ (all8 fun k => iprop(∃ f, xrPts (F := F) (xp c) k f))) := by
  rw [rest_bar]; unfold barPay; rw [if_neg (by decide), if_pos rfl]

/-- After the last send nothing is owed to the `y` neighbour, then nothing at all. -/
theorem OY_nil (c : Dev nD) : OY c [] = OX c L8 := by unfold OY; rw [owedL]
theorem OX_nil (c : Dev nD) : OX c [] = 0 := by unfold OX; rw [owedL]

/-- The two signals hand the device's landing buffers to its neighbours. -/
theorem wp_hello (K : Dev nD × Cix → ℕ) (c : Dev nD) (P : PP F) (Q : PUnit → sProp 𝕄) :
    iprop(records m K ∗ ownO c (O₀ c) ∗ dutyTok ER (barCell (yp c)) 0 false ∗ dutyTok ER (barCell (xp c)) 0 true
      ∗ (all8 fun k => iprop(∃ f, yrPts (F := F) c k f)) ∗ (all8 fun k => iprop(∃ f, xrPts (F := F) c k f))
      ∗ (ownO c (OY c L8) -∗ WP c P Q)) ⊢ WP c (hello c P) Q := by
  unfold hello ownO
  simp only [semSignalWord, Prog.lift, Prog.bind_op, Prog.bind_ret, Prog.pure_eq_ret]
  iintro ⟨#HR, ⟨%W, HO⟩, Hty, Htx, Hy, Hx, Hk⟩
  iapply (Rounds.wp_signal 𝒱₀ ER (rd m) (c : Thread nD τ) none (dst := (yp c : Thread nD τ)) (κ := K (yp c, none))
      (d := false) (by rw [duties_bar]; exact Finset.mem_univ _) ((amount_bar m (yp c) false).trans (by decide)) () (O₁ c) rfl)
    $$ [HO Hty Hy]
  · isplitr; · iapply (inv_bar m K (yp c)); iexact HR
    isplitl [HO]; · iexact HO
    isplitl [Hty]; · iexact Hty
    isplitl [Hy]; · iapply (Entails.of_eq (barPay_y m c)); iexact Hy
    iapply (reached_bar m K (yp c)); iexact HR
  iintro HO
  iapply (Rounds.wp_signal 𝒱₀ ER (rd m) (c : Thread nD τ) none (dst := (xp c : Thread nD τ)) (κ := K (xp c, none))
      (d := true) (by rw [duties_bar]; exact Finset.mem_univ _) ((amount_bar m (xp c) true).trans (by decide)) () (OY c L8) rfl)
    $$ [HO Htx Hx]
  · isplitr; · iapply (inv_bar m K (xp c)); iexact HR
    isplitl [HO]; · iexact HO
    isplitl [Htx]; · iexact Htx
    isplitl [Hx]; · iapply (Entails.of_eq (barPay_x m c)); iexact Hx
    iapply (reached_bar m K (xp c)); iexact HR
  iintro HO
  iapply Hk
  iexists W; iexact HO

/-- The wait for both neighbours brings their landing buffers. -/
theorem wp_barWait (K : Dev nD × Cix → ℕ) (c : Dev nD) (P : PP F) (Q : PUnit → sProp 𝕄) :
    iprop(records m K ∗ levAts L lv ∗ cred (tallyAt (barCell c) () 2) ∗ ownO c (OY c L8) ∗ atPos ER (barCell c) 0 ∅ 0
      ∗ ((ownO c (OY c L8) ∗ (all8 fun k => iprop(∃ f, yrPts (F := F) (yp c) k f)) ∗ (all8 fun k => iprop(∃ f, xrPts (F := F) (xp c) k f))
        ∗ semVal (barCell c) 0) -∗ WP c P Q)) ⊢ WP c ((semWaitWord barS 2#32).bind fun _ => P) Q := by
  unfold ownO
  simp only [semWaitWord, Prog.lift, Prog.bind_op, Prog.bind_ret, Prog.pure_eq_ret]
  iintro ⟨#HR, #Hlev, Hc, ⟨%W, HO⟩, Hat, Hk⟩
  ihave #HI := (inv_bar m K c) $$ HR
  iapply (Rounds.wp_wait_rest_token 𝒱₀ ER (rd m) (c : Thread nD τ) none (κ := K (c, none))
      (wpE_semWait_eq 𝒱₀ (c : Thread nD τ) none Set.univ) (Set.mem_univ _) () (O := OY c L8) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar (F := F) c); iexact Hlev
    iexact Hat
  iintro ⟨HO, Hat, -, Hpay⟩
  ihave Hp := (Entails.of_eq (bar_brings m c)) $$ Hpay
  icases Hp with ⟨Hy, Hx⟩
  imod (Rounds.cell_close ER (rd m) (Set.mem_univ (K (c, none))) (fun h => h) (R := 0 + 1) (duties_later m (barCell c))) $$ [Hat] with Hz
  · isplitr; · iexact HI
    iexact Hat
  iapply Hk
  isplitl [HO]; · iexists _; iexact HO
  isplitl [Hy]; · iexact Hy
  isplitl [Hx]; · iexact Hx
  iexact Hz

/-! ## Runs of steps -/

/-- What sending chunk `k` to the `y` neighbour takes. -/
def YIn (c : Dev nD) (k : Fin 8) : sProp 𝕄 :=
  iprop((∃ f, ysPts c k f) ∗ (∃ f, yrPts (yp c) k f) ∗ dutyTok ER (dcell c 0 k) 0 false ∗ dutyTok ER (dcell (yp c) 1 k) 0 false)
/-- What totalling chunk `k` and sending it to the `x` neighbour takes, and what it gives. -/
def XIn (c : Dev nD) (k : Fin 8) : sProp 𝕄 :=
  iprop((∃ f, xsPts c k f) ∗ (∃ f, xrPts (xp c) k f) ∗ dutyTok ER (dcell c 2 k) 0 false ∗ dutyTok ER (dcell (xp c) 3 k) 0 false
    ∗ cred (tallyAt (dcell c 1 k) () N) ∗ atPos ER (dcell c 1 k) 0 ∅ 0)
def XOut (c : Dev nD) (k : Fin 8) : sProp 𝕄 :=
  iprop(cred (tallyAt (dcell c 2 k) () N) ∗ yrPts c k (ysF m (yp c)) ∗ semVal (dcell c 1 k) 0)
/-- What awaiting chunk `k` from the `x` neighbour takes; what storing batch `b` gives. -/
def FIn (c : Dev nD) (k : Fin 8) : sProp 𝕄 := iprop(cred (tallyAt (dcell c 3 k) () N) ∗ atPos ER (dcell c 3 k) 0 ∅ 0)
def FOut (c : Dev nD) (b : Fin 4) : sProp 𝕄 :=
  iprop((((c : Thread nD τ).loc cc0_scratch4) ↦[(rectR b).set]{fullShare} (xsF m (xp c))) ∗ semVal (dcell c 3 (kA b)) 0 ∗ semVal (dcell c 3 (kB b)) 0)
/-- What awaiting the two sends of chunk `k` takes, and what it gives. -/
def SIn (c : Dev nD) (k : Fin 8) : sProp 𝕄 :=
  iprop(cred (tallyAt (dcell c 0 k) () N) ∗ atPos ER (dcell c 0 k) 0 ∅ 0 ∗ cred (tallyAt (dcell c 2 k) () N) ∗ atPos ER (dcell c 2 k) 0 ∅ 0)
def SOut (c : Dev nD) (k : Fin 8) : sProp 𝕄 :=
  iprop(ysPts c k (ysF m c) ∗ xsPts c k (xsF m c) ∗ semVal (dcell c 0 k) 0 ∗ semVal (dcell c 2 k) 0)

theorem wp_ySteps (K : Dev nD × Cix → ℕ) (c : Dev nD) (P : PP F) (Q : PUnit → sProp 𝕄) : ∀ ks : List (Fin 8),
    iprop(records m K ∗ keep m c ∗ ownO c (OY c ks) ∗ bigSepL ks (YIn (F := F) c)
      ∗ ((keep m c ∗ ownO c (OX c L8) ∗ bigSepL ks (fun k => cred (tallyAt (dcell c 0 k) () N))) -∗ WP c P Q)) ⊢ WP c (ySteps c ks P) Q
  | [] => by
    unfold ySteps
    rw [OY_nil]
    iintro ⟨-, Hkp, HO, -, Hk⟩
    iapply Hk
    isplitl [Hkp]; · iexact Hkp
    isplitl [HO]; · iexact HO
    rw [bigSepL_nil]; iempintro
  | k :: ks => by
    unfold ySteps
    rw [bigSepL_cons' k ks (YIn c), bigSepL_cons' k ks]
    unfold YIn
    iintro ⟨#HR, Hkp, HO, ⟨⟨Hs, Hd, Ht, Ht'⟩, Hks⟩, Hk⟩
    iapply (wp_yStore m c k _ Q)
    isplitl [Hkp]; · iexact Hkp
    isplitl [Hs]; · iexact Hs
    iintro ⟨Hkp, Hs⟩
    iapply (wp_ySend m K c k ks _ Q)
    isplitr; · iexact HR
    isplitl [Hs]; · iexact Hs
    isplitl [Hd]; · iexact Hd
    isplitl [HO]; · iexact HO
    isplitl [Ht]; · iexact Ht
    isplitl [Ht']; · iexact Ht'
    iintro ⟨Hc, HO⟩
    iapply (wp_ySteps K c P Q ks)
    isplitr; · iexact HR
    isplitl [Hkp]; · iexact Hkp
    isplitl [HO]; · iexact HO
    isplitl [Hks]; · unfold YIn; iexact Hks
    iintro ⟨Hkp, HO, Hcs⟩
    iapply Hk
    isplitl [Hkp]; · iexact Hkp
    isplitl [HO]; · iexact HO
    isplitl [Hc] <;> iassumption

theorem wp_xSteps (K : Dev nD × Cix → ℕ) (c : Dev nD) (bs : List (Fin 4)) (P : PP F) (Q : PUnit → sProp 𝕄) : ∀ ks : List (Fin 8),
    iprop(records m K ∗ levAts L lv ∗ keep m c ∗ outP m c ks bs ∗ ownO c (OX c ks) ∗ bigSepL ks (XIn (F := F) c)
      ∗ ((keep m c ∗ outP m c [] bs ∗ ownO c 0 ∗ bigSepL ks (XOut m c)) -∗ WP c P Q)) ⊢ WP c (xSteps c ks P) Q
  | [] => by
    unfold xSteps
    rw [OX_nil]
    iintro ⟨-, -, Hkp, Hout, HO, -, Hk⟩
    iapply Hk
    isplitl [Hkp]; · iexact Hkp
    isplitl [Hout]; · iexact Hout
    isplitl [HO]; · iexact HO
    rw [bigSepL_nil]; iempintro
  | k :: ks => by
    unfold xSteps
    rw [bigSepL_cons' k ks (XIn c), bigSepL_cons' k ks]
    iintro ⟨#HR, #Hlev, Hkp, Hout, HO, ⟨HX, Hks⟩, Hk⟩
    unfold XIn
    icases HX with ⟨Hs, Hd, Ht, Ht', Hc, Hat⟩
    iapply (wp_xStore m K c k ks bs (OX c (k :: ks)) (mayWait_y c k (k :: ks)) _ Q)
    isplitr; · iexact HR
    isplitr; · iexact Hlev
    isplitl [Hkp]; · iexact Hkp
    isplitl [Hout]; · iexact Hout
    isplitl [Hs]; · iexact Hs
    isplitl [HO]; · iexact HO
    isplitl [Hc]; · iexact Hc
    isplitl [Hat]; · iexact Hat
    iintro ⟨Hkp, Hout, Hs, HO, Hy, Hz⟩
    iapply (wp_xSend m K c k ks _ Q)
    isplitr; · iexact HR
    isplitl [Hs]; · iexact Hs
    isplitl [Hd]; · iexact Hd
    isplitl [HO]; · iexact HO
    isplitl [Ht]; · iexact Ht
    isplitl [Ht']; · iexact Ht'
    iintro ⟨Hc, HO⟩
    iapply (wp_xSteps K c bs P Q ks)
    isplitr; · iexact HR
    isplitr; · iexact Hlev
    isplitl [Hkp]; · iexact Hkp
    isplitl [Hout]; · iexact Hout
    isplitl [HO]; · iexact HO
    isplitl [Hks]; · unfold XIn; iexact Hks
    iintro ⟨Hkp, Hout, HO, Hxs⟩
    iapply Hk
    isplitl [Hkp]; · iexact Hkp
    isplitl [Hout]; · iexact Hout
    isplitl [HO]; · iexact HO
    isplitr [Hxs]
    · unfold XOut
      isplitl [Hc]; · iexact Hc
      isplitl [Hy] <;> iassumption
    · iexact Hxs

theorem wp_fSteps (K : Dev nD × Cix → ℕ) (c : Dev nD) (P : PP F) (Q : PUnit → sProp 𝕄) : ∀ bs : List (Fin 4),
    iprop(records m K ∗ levAts L lv ∗ outP m c [] bs ∗ ownO c 0 ∗ bigSepL bs (fun b => iprop(FIn (F := F) c (kA b) ∗ FIn c (kB b)))
      ∗ ((outP m c [] [] ∗ ownO c 0 ∗ bigSepL bs (FOut m c)) -∗ WP c P Q)) ⊢ WP c (fSteps c bs P) Q
  | [] => by
    unfold fSteps
    iintro ⟨-, -, Hout, HO, -, Hk⟩
    iapply Hk
    isplitl [Hout]; · iexact Hout
    isplitl [HO]; · iexact HO
    rw [bigSepL_nil]; iempintro
  | b :: bs => by
    unfold fSteps
    rw [bigSepL_cons' b bs (fun b => iprop(FIn (F := F) c (kA b) ∗ FIn c (kB b))), bigSepL_cons' b bs (FOut m c)]
    iintro ⟨#HR, #Hlev, Hout, HO, ⟨⟨HA, HB⟩, Hbs⟩, Hk⟩
    unfold FIn
    icases HA with ⟨HcA, HaA⟩
    icases HB with ⟨HcB, HaB⟩
    iapply (wp_xWait m K c (kA b) _ Q)
    isplitr; · iexact HR
    isplitr; · iexact Hlev
    isplitl [HO]; · iexact HO
    isplitl [HcA]; · iexact HcA
    isplitl [HaA]; · iexact HaA
    iintro ⟨HO, HxA, HzA⟩
    iapply (wp_xWait m K c (kB b) _ Q)
    isplitr; · iexact HR
    isplitr; · iexact Hlev
    isplitl [HO]; · iexact HO
    isplitl [HcB]; · iexact HcB
    isplitl [HaB]; · iexact HaB
    iintro ⟨HO, HxB, HzB⟩
    iapply (wp_fStore m c b [] bs _ Q)
    isplitl [Hout]; · iexact Hout
    isplitl [HxA]; · iexact HxA
    isplitl [HxB]; · iexact HxB
    iintro ⟨Hout, Hx⟩
    iapply (wp_fSteps K c P Q bs)
    isplitr; · iexact HR
    isplitr; · iexact Hlev
    isplitl [Hout]; · iexact Hout
    isplitl [HO]; · iexact HO
    isplitl [Hbs]; · unfold FIn; iexact Hbs
    iintro ⟨Hout, HO, Hfs⟩
    iapply Hk
    isplitl [Hout]; · iexact Hout
    isplitl [HO]; · iexact HO
    isplitr [Hfs]
    · unfold FOut
      isplitl [Hx]; · iexact Hx
      isplitl [HzA] <;> iassumption
    · iexact Hfs

theorem wp_sSteps (K : Dev nD × Cix → ℕ) (c : Dev nD) (P : PP F) (Q : PUnit → sProp 𝕄) : ∀ ks : List (Fin 8),
    iprop(records m K ∗ levAts L lv ∗ ownO c 0 ∗ bigSepL ks (SIn (F := F) c)
      ∗ ((ownO c 0 ∗ bigSepL ks (SOut m c)) -∗ WP c P Q)) ⊢ WP c (sSteps ks P) Q
  | [] => by
    unfold sSteps
    iintro ⟨-, -, HO, -, Hk⟩
    iapply Hk
    isplitl [HO]; · iexact HO
    rw [bigSepL_nil]; iempintro
  | k :: ks => by
    unfold sSteps
    rw [bigSepL_cons' k ks (SIn c), bigSepL_cons' k ks (SOut m c)]
    iintro ⟨#HR, #Hlev, HO, ⟨HS, Hks⟩, Hk⟩
    unfold SIn
    icases HS with ⟨Hc, Hat, Hc', Hat'⟩
    iapply (wp_sWait m K c k _ Q)
    isplitr; · iexact HR
    isplitr; · iexact Hlev
    isplitl [HO]; · iexact HO
    isplitl [Hc]; · iexact Hc
    isplitl [Hat]; · iexact Hat
    isplitl [Hc']; · iexact Hc'
    isplitl [Hat']; · iexact Hat'
    iintro ⟨HO, H1, H2, H3, H4⟩
    iapply (wp_sSteps K c P Q ks)
    isplitr; · iexact HR
    isplitr; · iexact Hlev
    isplitl [HO]; · iexact HO
    isplitl [Hks]; · unfold SIn; iexact Hks
    iintro ⟨HO, Hss⟩
    iapply Hk
    isplitl [HO]; · iexact HO
    isplitr [Hss]
    · unfold SOut
      isplitl [H1]; · iexact H1
      isplitl [H2]; · iexact H2
      isplitl [H3] <;> iassumption
    · iexact Hss

end Cert.KernelIdeal.Hand

end
-- ==== Proof.Ideal.Device.lean ====
/-
# One device from start to end

What a device starts with and what it ends with, and that the body takes it from the one to the other.
-/
module

public import proofs.«01_k».proof.Proof.Ideal.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Conjunctions over the chunks -/

theorem all8_eq (Φ : Fin 8 → sProp 𝕄) : all8 Φ = bigSepL L8 Φ := bigSep_univ_eq_bigSepL L8 (by decide) (by decide) Φ

theorem bigSepL_sep {I : Type} [DecidableEq I] (l : List I) (hl : l.Nodup) (Φ Ψ : I → sProp 𝕄) :
    bigSepL l (fun i => iprop(Φ i ∗ Ψ i)) = iprop(bigSepL l Φ ∗ bigSepL l Ψ) := by
  rw [← bigSep_eq_bigSepL_of_eq l rfl hl, ← bigSep_eq_bigSepL_of_eq l rfl hl, ← bigSep_eq_bigSepL_of_eq l rfl hl, bigSep_sep']

/-- A conjunct for every chunk is one for each of the two chunks of every batch. -/
theorem pairs (Φ : Fin 8 → sProp 𝕄) : bigSepL L8 Φ ⊢ bigSepL L4 fun b => iprop(Φ (kA b) ∗ Φ (kB b)) := by
  show iprop(Φ 0 ∗ Φ 1 ∗ Φ 2 ∗ Φ 3 ∗ Φ 4 ∗ Φ 5 ∗ Φ 6 ∗ Φ 7) ⊢ iprop((Φ 0 ∗ Φ 1) ∗ (Φ 2 ∗ Φ 3) ∗ (Φ 4 ∗ Φ 5) ∗ Φ 6 ∗ Φ 7)
  iintro ⟨H0, H1, H2, H3, H4, H5, H6, H7⟩
  isplitl [H0 H1]; · isplitl [H0] <;> iassumption
  isplitl [H2 H3]; · isplitl [H2] <;> iassumption
  isplitl [H4 H5]; · isplitl [H4] <;> iassumption
  isplitl [H6] <;> iassumption
theorem unpair (Φ : Fin 8 → sProp 𝕄) : (bigSepL L4 fun b => iprop(Φ (kA b) ∗ Φ (kB b))) ⊢ bigSepL L8 Φ := by
  show iprop((Φ 0 ∗ Φ 1) ∗ (Φ 2 ∗ Φ 3) ∗ (Φ 4 ∗ Φ 5) ∗ Φ 6 ∗ Φ 7) ⊢ iprop(Φ 0 ∗ Φ 1 ∗ Φ 2 ∗ Φ 3 ∗ Φ 4 ∗ Φ 5 ∗ Φ 6 ∗ Φ 7)
  iintro ⟨⟨H0, H1⟩, ⟨H2, H3⟩, ⟨H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## Buffers as their chunks -/

/-- A buffer is its parts. -/
theorem pts_parts {T : Type} (ℓ : Loc nD τ sig) (l : List T) [Fintype T] [DecidableEq T] (hl : (Finset.univ : Finset T) = l.toFinset) (hn : l.Nodup)
    (K : T → Finset (Idx ℓ)) (hd : ∀ t t', t ≠ t' → Disjoint (K t) (K t')) (hc : Finset.univ.biUnion K = Finset.univ) (f : Buf (Elt F) ℓ) :
    (ℓ ↦{fullShare} f : sProp 𝕄) = bigSepL l fun t => ℓ ↦[K t]{fullShare} f := by
  rw [← bigSep_univ_eq_bigSepL l hl hn, ← pointsTo_biUnion Finset.univ K fun t _ t' _ h => hd t t' h, hc]

theorem ys_chunks (c : Dev nD) (f : Vec F S4x256x512 .bf16) : (((c : Thread nD τ).loc cc0_scratch1) ↦{fullShare} f : sProp 𝕄) = bigSepL L8 fun k => ysPts c k f :=
  pts_parts ((c : Thread nD τ).loc cc0_scratch1) L8 (by decide) (by decide) (fun k => (crect k).set) crect_disjoint crect_cover f
theorem yr_chunks (c : Dev nD) (f : Vec F S4x256x512 .bf16) : (((c : Thread nD τ).loc cc0_scratch2) ↦{fullShare} f : sProp 𝕄) = bigSepL L8 fun k => yrPts c k f :=
  pts_parts ((c : Thread nD τ).loc cc0_scratch2) L8 (by decide) (by decide) (fun k => (crect k).set) crect_disjoint crect_cover f
theorem xs_chunks (c : Dev nD) (f : Vec F S4x256x512 .bf16) : (((c : Thread nD τ).loc cc0_scratch3) ↦{fullShare} f : sProp 𝕄) = bigSepL L8 fun k => xsPts c k f :=
  pts_parts ((c : Thread nD τ).loc cc0_scratch3) L8 (by decide) (by decide) (fun k => (crect k).set) crect_disjoint crect_cover f
theorem xr_chunks (c : Dev nD) (f : Vec F S4x256x512 .bf16) : (((c : Thread nD τ).loc cc0_scratch4) ↦{fullShare} f : sProp 𝕄) = bigSepL L8 fun k => xrPts c k f :=
  pts_parts ((c : Thread nD τ).loc cc0_scratch4) L8 (by decide) (by decide) (fun k => (crect k).set) crect_disjoint crect_cover f
theorem xr_batches (c : Dev nD) (f : Vec F S4x256x512 .bf16) : (((c : Thread nD τ).loc cc0_scratch4) ↦{fullShare} f : sProp 𝕄)
    = bigSepL L4 fun b => ((c : Thread nD τ).loc cc0_scratch4) ↦[(rectR b).set]{fullShare} f :=
  pts_parts ((c : Thread nD τ).loc cc0_scratch4) L4 (by decide) (by decide) (fun b => (rectR b).set) rectR_disjoint rectR_cover f

/-- Each conjunct at some contents. -/
theorem some_each {A : Type} (Φ : Fin 8 → A → sProp 𝕄) (f : A) : bigSepL L8 (fun k => Φ k f) ⊢ bigSepL L8 fun k => iprop(∃ f, Φ k f) :=
  bigSepL_mono fun k _ => by iintro H; iexists f; iexact H

/-- The kernel's scratch buffers, whole, at some contents. -/
def scratch (c : Dev nD) : sProp 𝕄 := Pipeline.scopedRest (Ix := Unit) (Name := ℕ) (U := UU) (Lvl := ℕ) (Val := Elt F) spec0 c

theorem scratch_open (c : Dev nD) : scratch (F := F) c ⊢ iprop((∃ f, wbPts c f) ∗ (bigSepL L8 fun k => iprop(∃ f, ysPts c k f)) ∗ (bigSepL L8 fun k => iprop(∃ f, yrPts c k f))
    ∗ (bigSepL L8 fun k => iprop(∃ f, xsPts c k f)) ∗ bigSepL L8 fun k => iprop(∃ f, xrPts c k f)) := by
  unfold scratch wbPts
  rw [scopedRest0_eq]
  iintro ⟨H0, ⟨%f1, H1⟩, ⟨%f2, H2⟩, ⟨%f3, H3⟩, ⟨%f4, H4⟩⟩
  isplitl [H0]; · iexact H0
  isplitl [H1]; · iapply (some_each (fun k f => ysPts c k f) f1); iapply (Entails.of_eq (ys_chunks c f1)); iexact H1
  isplitl [H2]; · iapply (some_each (fun k f => yrPts c k f) f2); iapply (Entails.of_eq (yr_chunks c f2)); iexact H2
  isplitl [H3]; · iapply (some_each (fun k f => xsPts c k f) f3); iapply (Entails.of_eq (xs_chunks c f3)); iexact H3
  iapply (some_each (fun k f => xrPts c k f) f4); iapply (Entails.of_eq (xr_chunks c f4)); iexact H4

theorem scratch_close (c : Dev nD) (f0 : Vec F S512x512 .bf16) (f1 f2 f3 f4 : Vec F S4x256x512 .bf16) :
    iprop(wbPts c f0 ∗ (bigSepL L8 fun k => ysPts c k f1) ∗ (bigSepL L8 fun k => yrPts c k f2) ∗ (bigSepL L8 fun k => xsPts c k f3)
      ∗ bigSepL L4 fun b => ((c : Thread nD τ).loc cc0_scratch4) ↦[(rectR b).set]{fullShare} f4) ⊢ scratch (F := F) c := by
  unfold scratch wbPts
  rw [scopedRest0_eq, ← ys_chunks, ← yr_chunks, ← xs_chunks, ← xr_batches]
  iintro ⟨H0, H1, H2, H3, H4⟩
  isplitl [H0]; · iexists f0; iexact H0
  isplitl [H1]; · iexists f1; iexact H1
  isplitl [H2]; · iexists f2; iexact H2
  isplitl [H3]; · iexists f3; iexact H3
  iexists f4; iexact H4

/-! ## Start and end -/

/-- Device `c` is at the first round of its cells; -/
def pos (c : Dev nD) : sProp 𝕄 :=
  iprop(atPos ER (barCell c) 0 ∅ 0 ∗ bigSepL L8 (fun k => atPos ER (dcell c 0 k) 0 ∅ 0) ∗ bigSepL L8 (fun k => atPos ER (dcell c 1 k) 0 ∅ 0) ∗ bigSepL L8 (fun k => atPos ER (dcell c 2 k) 0 ∅ 0) ∗ bigSepL L8 (fun k => atPos ER (dcell c 3 k) 0 ∅ 0))
/-- it holds the tokens of the duties it pays; -/
def payToks (c : Dev nD) : sProp 𝕄 :=
  iprop(dutyTok ER (barCell (yp c)) 0 false ∗ dutyTok ER (barCell (xp c)) 0 true
    ∗ bigSepL L8 (fun k => dutyTok ER (dcell c 0 k) 0 false) ∗ bigSepL L8 (fun k => dutyTok ER (dcell (yp c) 1 k) 0 false)
    ∗ bigSepL L8 (fun k => dutyTok ER (dcell c 2 k) 0 false) ∗ bigSepL L8 (fun k => dutyTok ER (dcell (xp c) 3 k) 0 false))
/-- it holds the credit for what its neighbours owe it. -/
def creds (c : Dev nD) : sProp 𝕄 :=
  iprop(cred (tallyAt (barCell c) () 2) ∗ bigSepL L8 (fun k => cred (tallyAt (dcell c 1 k) () N)) ∗ bigSepL L8 (fun k => cred (tallyAt (dcell c 3 k) () N)))
/-- At the end its counters are at zero. -/
def zeros (c : Dev nD) : sProp 𝕄 :=
  iprop(semVal (barCell c) 0 ∗ bigSepL L8 (fun k => semVal (dcell c 0 k) 0) ∗ bigSepL L8 (fun k => semVal (dcell c 1 k) 0) ∗ bigSepL L8 (fun k => semVal (dcell c 2 k) 0) ∗ bigSepL L8 (fun k => semVal (dcell c 3 k) 0))

theorem nodup8 : L8.Nodup := by decide
theorem nodup7 : ([1, 2, 3, 4, 5, 6, 7] : List (Fin 8)).Nodup := by decide
theorem nodup4 : L4.Nodup := by decide

theorem cons8 (Φ : Fin 8 → sProp 𝕄) : bigSepL L8 Φ = iprop(Φ 0 ∗ bigSepL [1, 2, 3, 4, 5, 6, 7] Φ) := bigSepL_cons' 0 [1, 2, 3, 4, 5, 6, 7] Φ

set_option maxHeartbeats 1000000 in
/-- The body, from the one to the other. -/
theorem wp_prog (K : Dev nD × Cix → ℕ) (c : Dev nD) (Q : PUnit → sProp 𝕄) :
    iprop(records m K ∗ levAts L lv ∗ pos c ∗ payToks c ∗ creds c ∗ scratch c ∗ ownO c (O₀ c) ∗ oPts m c ∗ wPts m c ∗ outP m c L8 L4
      ∗ ((scratch c ∗ zeros c ∗ ownO c 0 ∗ oPts m c ∗ wPts m c ∗ outP m c [] []) -∗ Q ⟨⟩)) ⊢ WP c (prog c) Q := by
  unfold pos payToks creds zeros prog
  iintro ⟨#HR, #Hlev, ⟨HaB, Ha0, Ha1, Ha2, Ha3⟩, ⟨HtB, HtB', Ht0, Ht1, Ht2, Ht3⟩, ⟨HcB, Hc1, Hc3⟩, Hscr, HO, Ho, Hw, Hout, Hk⟩
  ihave Hscr := (scratch_open (F := F) c) $$ Hscr
  icases Hscr with ⟨Hwb, Hys, Hyr, Hxs, Hxr⟩
  iapply (wp_hello m K c _ Q)
  isplitr; · iexact HR
  isplitl [HO]; · iexact HO
  isplitl [HtB]; · iexact HtB
  isplitl [HtB']; · iexact HtB'
  isplitl [Hyr]; · rw [all8_eq]; iexact Hyr
  isplitl [Hxr]; · rw [all8_eq]; iexact Hxr
  iintro HO
  iapply (wp_wStore m c _ Q)
  isplitl [Hw]; · iexact Hw
  isplitl [Hwb]; · iexact Hwb
  iintro ⟨Hw, Hwb⟩
  ihave Hys := (Entails.of_eq (cons8 _)) $$ Hys
  icases Hys with ⟨Hy0, Hys⟩
  iapply (wp_yStore m c 0 _ Q)
  isplitl [Ho Hwb]
  · unfold keep
    isplitl [Ho] <;> iassumption
  isplitl [Hy0]; · iexact Hy0
  iintro ⟨Hkp, Hy0⟩
  iapply (wp_barWait m K c _ Q)
  isplitr; · iexact HR
  isplitr; · iexact Hlev
  isplitl [HcB]; · iexact HcB
  isplitl [HO]; · iexact HO
  isplitl [HaB]; · iexact HaB
  iintro ⟨HO, Hyr, Hxr, HzB⟩
  ihave Hyr := (Entails.of_eq ((all8_eq _).trans (cons8 _))) $$ Hyr
  ihave Hxr := (Entails.of_eq (all8_eq _)) $$ Hxr
  icases Hyr with ⟨Hyr0, Hyr⟩
  ihave Ht0 := (Entails.of_eq (cons8 _)) $$ Ht0
  icases Ht0 with ⟨Ht00, Ht0⟩
  ihave Ht1 := (Entails.of_eq (cons8 _)) $$ Ht1
  icases Ht1 with ⟨Ht10, Ht1⟩
  iapply (wp_ySend m K c 0 [1, 2, 3, 4, 5, 6, 7] _ Q)
  isplitr; · iexact HR
  isplitl [Hy0]; · iexact Hy0
  isplitl [Hyr0]; · iexact Hyr0
  isplitl [HO]; · iexact HO
  isplitl [Ht00]; · iexact Ht00
  isplitl [Ht10]; · iexact Ht10
  iintro ⟨Hc00, HO⟩
  iapply (wp_ySteps m K c _ Q [1, 2, 3, 4, 5, 6, 7])
  isplitr; · iexact HR
  isplitl [Hkp]; · iexact Hkp
  isplitl [HO]; · iexact HO
  isplitl [Hys Hyr Ht0 Ht1]
  · unfold YIn
    rw [bigSepL_sep _ nodup7, bigSepL_sep _ nodup7, bigSepL_sep _ nodup7]
    isplitl [Hys]; · iexact Hys
    isplitl [Hyr]; · iexact Hyr
    isplitl [Ht0] <;> iassumption
  iintro ⟨Hkp, HO, Hc0⟩
  iapply (wp_xSteps m K c L4 _ Q L8)
  isplitr; · iexact HR
  isplitr; · iexact Hlev
  isplitl [Hkp]; · iexact Hkp
  isplitl [Hout]; · iexact Hout
  isplitl [HO]; · iexact HO
  isplitl [Hxs Hxr Ht2 Ht3 Hc1 Ha1]
  · unfold XIn
    rw [bigSepL_sep _ nodup8, bigSepL_sep _ nodup8, bigSepL_sep _ nodup8, bigSepL_sep _ nodup8, bigSepL_sep _ nodup8]
    isplitl [Hxs]; · iexact Hxs
    isplitl [Hxr]; · iexact Hxr
    isplitl [Ht2]; · iexact Ht2
    isplitl [Ht3]; · iexact Ht3
    isplitl [Hc1] <;> iassumption
  iintro ⟨Hkp, Hout, HO, Hx⟩
  ihave Hx := (Entails.of_eq (show bigSepL L8 (XOut m c) = iprop(bigSepL L8 (fun k => cred (tallyAt (dcell c 2 k) () N))
      ∗ bigSepL L8 (fun k => yrPts c k (ysF m (yp c))) ∗ bigSepL L8 (fun k => semVal (dcell c 1 k) 0)) from by
    unfold XOut; rw [bigSepL_sep _ nodup8, bigSepL_sep _ nodup8])) $$ Hx
  icases Hx with ⟨Hc2, Hyr, Hz1⟩
  iapply (wp_fSteps m K c _ Q L4)
  isplitr; · iexact HR
  isplitr; · iexact Hlev
  isplitl [Hout]; · iexact Hout
  isplitl [HO]; · iexact HO
  isplitl [Hc3 Ha3]
  · iapply (pairs (F := F) (FIn c))
    unfold FIn
    rw [bigSepL_sep _ nodup8]
    isplitl [Hc3] <;> iassumption
  iintro ⟨Hout, HO, Hf⟩
  ihave Hf := (Entails.of_eq (show bigSepL L4 (FOut m c) = iprop(bigSepL L4 (fun b => ((c : Thread nD τ).loc cc0_scratch4) ↦[(rectR b).set]{fullShare} (xsF m (xp c)))
      ∗ bigSepL L4 (fun b => iprop(semVal (dcell c 3 (kA b)) 0 ∗ semVal (dcell c 3 (kB b)) 0))) from by
    unfold FOut; rw [bigSepL_sep _ nodup4])) $$ Hf
  icases Hf with ⟨Hxr, Hz3⟩
  ihave Hz3 := (unpair (F := F) (fun k => semVal (dcell c 3 k) 0)) $$ Hz3
  iapply (wp_sSteps m K c _ Q L8)
  isplitr; · iexact HR
  isplitr; · iexact Hlev
  isplitl [HO]; · iexact HO
  isplitl [Hc00 Hc0 Ha0 Hc2 Ha2]
  · unfold SIn
    rw [bigSepL_sep _ nodup8, bigSepL_sep _ nodup8, bigSepL_sep _ nodup8]
    isplitl [Hc00 Hc0]
    · iapply (Entails.of_eq (cons8 (fun k => cred (tallyAt (dcell c 0 k) () N))).symm)
      isplitl [Hc00] <;> iassumption
    isplitl [Ha0]; · iexact Ha0
    isplitl [Hc2] <;> iassumption
  iintro ⟨HO, Hs⟩
  ihave Hs := (Entails.of_eq (show bigSepL L8 (SOut m c) = iprop(bigSepL L8 (fun k => ysPts c k (ysF m c)) ∗ bigSepL L8 (fun k => xsPts c k (xsF m c))
      ∗ bigSepL L8 (fun k => semVal (dcell c 0 k) 0) ∗ bigSepL L8 (fun k => semVal (dcell c 2 k) 0)) from by
    unfold SOut; rw [bigSepL_sep _ nodup8, bigSepL_sep _ nodup8, bigSepL_sep _ nodup8])) $$ Hs
  icases Hs with ⟨Hys, Hxs, Hz0, Hz2⟩
  unfold keep
  icases Hkp with ⟨Ho, Hwb⟩
  unfold WP
  rw [wp_ret]; imodintro
  iapply Hk
  isplitl [Hwb Hys Hyr Hxs Hxr]
  · iapply (scratch_close c (wbC m c) (ysF m c) (ysF m (yp c)) (xsF m c) (xsF m (xp c)))
    isplitl [Hwb]; · iexact Hwb
    isplitl [Hys]; · iexact Hys
    isplitl [Hyr]; · iexact Hyr
    isplitl [Hxs] <;> iassumption
  isplitl [HzB Hz0 Hz1 Hz2 Hz3]
  · isplitl [HzB]; · iexact HzB
    isplitl [Hz0]; · iexact Hz0
    isplitl [Hz1]; · iexact Hz1
    isplitl [Hz2] <;> iassumption
  isplitl [HO]; · iexact HO
  isplitl [Ho]; · iexact Ho
  isplitl [Hw] <;> iassumption

end Cert.KernelIdeal.Hand

end
-- ==== Proof.Ideal.Obligation.lean ====
/-
# The body obligation

What the launch hands a device's body and takes back from it, and that the body keeps to it.
-/
module

public import proofs.«01_k».proof.Proof.Ideal.Device

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- The memory at launch: any contents, every counter at zero, any generator registers. -/
def s₀ : MemSt nD τ sig (Elt F) := ⟨m, fun _ => 0, ρ⟩

/-- The protocol's state that device `c` starts from. -/
def ghost (c : Dev nD) : sProp 𝕄 := iprop(∃ K, records m K ∗ pos c ∗ payToks c)
/-- All that device `c` starts from besides buffers. -/
def start (c : Dev nD) : sProp 𝕄 := iprop(ghost m c ∗ creds c ∗ levAts L lv)
/-- Before the body; -/
def Φ₀ (c : Dev nD) : sProp 𝕄 := iprop(start m c ∗ scratch c)
/-- after it. -/
def Φ₁ (c : Dev nD) : sProp 𝕄 := iprop(zeros (F := F) c ∗ scratch c)

/-- What the pipeline keeps: the operands stay as staged, the result's staging buffer ends with the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => oC m c
    | ⟨1, _⟩ => wC m c
    | ⟨2, _⟩ => outC m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fin_N (t : Fin cfg0.N) : t = t0_0 := fin_N0 t

theorem bigSep_W (Φ : Fin cfg0.W → sProp 𝕄) : bigSep Finset.univ Φ = iprop(Φ (0 : Fin 3) ∗ Φ (1 : Fin 3) ∗ Φ (2 : Fin 3)) := bigSep_W0 Φ

/-- A buffer held whole at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () (t0_0 : Fin cfg0.N).succ
    ∗ stg c cc0_stg0_0 (oC m c) ∗ stg c cc0_stg1_0 (wC m c) ∗ stg c cc0_stg2_0 (outC m c))

theorem before_0 (c : Dev nD) (d) : (dats m ρ 0 c).before (0 : Fin 3) t0_0 d = oC m c := by
  unfold Dat.before; rw [if_pos (fetch0_0 t0_0)]; rfl
theorem before_1 (c : Dev nD) (d) : (dats m ρ 0 c).before (1 : Fin 3) t0_0 d = wC m c := by
  unfold Dat.before; rw [if_pos (fetch0_1 t0_0)]; rfl

theorem outOk_start (c : Dev nD) (f : Vec F S4x256x1024 .f32) : OutOk m c L8 L4 f :=
  ⟨fun k hk => absurd ((by decide : ∀ k, k ∈ L8) k) hk, fun b hb => absurd ((by decide : ∀ b, b ∈ L4) b) hb⟩

theorem sound_body (c : Dev nD) : bodyPre m ρ c ⊢ WP c (prog c) fun _ => bodyPost m ρ c := by
  unfold bodyPre Φ₀ start ghost Dat.owesAt Pipeline.owesWithin
  rw [show (dats m ρ 0 c).owed (t0_0 : Fin cfg0.N).castSucc = O₀ c from rfl]
  iintro ⟨⟨⟨⟨%K, #HR, Hpos, Htok⟩, Hcr, #Hlev⟩, Hscr⟩, ⟨%W, %hW, HO⟩, ⟨%d0, %g0, %hg0, Ho⟩, ⟨%d1, %g1, %hg1, Hw⟩, ⟨%d2, %g2, %hg2, Hout⟩⟩
  rw [before_0] at hg0
  rw [before_1] at hg1
  subst hg0 hg1
  iapply (wp_prog m K c fun _ => bodyPost m ρ c)
  isplitr; · iexact HR
  isplitr; · iexact Hlev
  isplitl [Hpos]; · iexact Hpos
  isplitl [Htok]; · iexact Htok
  isplitl [Hcr]; · iexact Hcr
  isplitl [Hscr]; · iexact Hscr
  isplitl [HO]; · unfold ownO; iexists W; iexact HO
  isplitl [Ho]; · unfold oPts; iexact Ho
  isplitl [Hw]; · unfold wPts; iexact Hw
  isplitl [Hout]
  · unfold outP
    iexists g2
    isplitr; · (ipureintro; exact outOk_start m c g2)
    iexact Hout
  unfold ownO oPts wPts outP bodyPost Φ₁ Dat.owesAt Pipeline.owesWithin
  rw [show (dats m ρ 0 c).owed (t0_0 : Fin cfg0.N).succ = 0 from rfl]
  iintro ⟨Hscr, Hz, ⟨%W', HO⟩, Ho, Hw, ⟨%f, %hf, Hout⟩⟩
  isplitl [Hscr Hz]
  · isplitl [Hz] <;> iassumption
  isplitl [HO]
  · iexists W'
    isplitr; · ipureintro; exact fun _ _ => Or.inl trivial
    iexact HO
  isplitl [Ho]
  · iexists _; isplitr; · (ipureintro; rfl)
    iexact Ho
  isplitl [Hw]
  · iexists _; isplitr; · (ipureintro; rfl)
    iexact Hw
  iexists f; isplitr; · (ipureintro; exact hf.done)
  iexact Hout

set_option maxRecDepth 8000 in
/-- The body meets its obligation on every device. -/
theorem body_obligation (c : Dev nD) : BodyObligation (dats (F := F) m ρ 0 c) (defs₀ (F := F)) 𝒱₀ () Set.univ := fun t => by
  rw [fin_N t, bigSep_W, bigSep_W]
  simp only [owns_whole_eq]
  show bodyPre m ρ c ⊢ wp frame (wpE (defs₀ (F := F)) 𝒱₀ (c : Thread nD τ) none) Set.univ (bodyAt0 (F := F) t0_0) fun _ => bodyPost m ρ c
  rw [body_eq]
  simp only [wp_deviceId]
  exact sound_body m ρ c

end Cert.KernelIdeal.Hand

end
-- ==== Proof.Ideal.Deal.lean ====
/-
# Dealing the protocol's state

The launch mints every cell's round state and every duty's token, and deals each device what it starts from: its own
positions and the tokens of the duties it pays, which are its neighbours' cells' as well as its own.
-/
module

public import proofs.«01_k».proof.Proof.Ideal.Obligation

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Conjunctions over a device's cells -/

theorem bigSep_arr (Φ : Fin 4 × Fin 8 → sProp 𝕄) : bigSep Finset.univ Φ
    = iprop(bigSepL L8 (fun k => Φ (0, k)) ∗ bigSepL L8 (fun k => Φ (1, k)) ∗ bigSepL L8 (fun k => Φ (2, k)) ∗ bigSepL L8 (fun k => Φ (3, k))) := by
  rw [bigSep_univ_prod, bigSep_univ_eq_bigSepL [(0 : Fin 4), 1, 2, 3] (by decide) (by decide)]
  simp only [← all8_eq]
  rfl

theorem bigSep_cix (Φ : Cix → sProp 𝕄) : bigSep Finset.univ Φ
    = iprop(Φ none ∗ bigSepL L8 (fun k => Φ (some (0, k))) ∗ bigSepL L8 (fun k => Φ (some (1, k))) ∗ bigSepL L8 (fun k => Φ (some (2, k)))
      ∗ bigSepL L8 (fun k => Φ (some (3, k)))) := by
  rw [bigSep_univ_at Φ none, show (Finset.univ : Finset Cix).erase none = Finset.univ.map Function.Embedding.some from by decide +kernel, bigSep_map,
    ← bigSep_arr (fun ak => Φ (some ak))]
  rfl

/-! ## The cells and the tokens -/

theorem csem_injective : Function.Injective csem := by
  rintro (_ | ⟨a, k⟩) (_ | ⟨a', k'⟩) h
  · rfl
  · cases h
  · cases h
  · have h' : cellS a k = cellS a' k' := SemLoc.dma.inj h
    have ha : a = a' := by rw [← dA_cellS a k, h', dA_cellS]
    have hk : k = k' := by rw [← dK_cellS a k, h', dK_cellS]
    rw [ha, hk]

theorem kcell_injective : Function.Injective (kcell : Dev nD × Cix → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- A device's duties: the two units on its barrier cell, the landing on each copy cell. -/
abbrev Dix : Type := Bool ⊕ (Fin 4 × Fin 8)
def dutyOf : Dix → Cix × Bool
  | .inl d => (none, d)
  | .inr ak => (some ak, false)
abbrev tokOf (cj : Dev nD × Dix) : GSem nD τ sig × ℕ × Bool := (kcell (cj.1, (dutyOf cj.2).1), 0, (dutyOf cj.2).2)

theorem dutyOf_injective : Function.Injective dutyOf := by
  rintro (d | ak) (d' | ak') h
  · exact congrArg Sum.inl (congrArg Prod.snd h)
  · cases congrArg Prod.fst h
  · cases congrArg Prod.fst h
  · exact congrArg Sum.inr (Option.some.inj (congrArg Prod.fst h))

theorem tokOf_injective : Function.Injective (tokOf : Dev nD × Dix → GSem nD τ sig × ℕ × Bool) := by
  rintro ⟨c, j⟩ ⟨c', j'⟩ h
  have h1 := kcell_injective (congrArg Prod.fst h)
  have h2 : (dutyOf j).2 = (dutyOf j').2 := congrArg (fun x : GSem nD τ sig × ℕ × Bool => x.2.2) h
  have h3 : c = c' := congrArg Prod.fst h1
  have h4 : j = j' := dutyOf_injective (Prod.ext (congrArg Prod.snd h1) h2)
  rw [h3, h4]

def allToks : Finset (GSem nD τ sig × ℕ × Bool) := Finset.univ.map ⟨tokOf, tokOf_injective⟩

/-- The ghost state at launch: the pipeline's and the protocol's. -/
def u₀ : UU := (initOf (Pipeline.cells cfgs cellOf_inj) (Pipeline.launchToks cfgs cellOf_inj), initOf allCells allToks)

/-- The tokens of the duties on device `c`'s own cells. -/
def toks (c : Dev nD) : sProp 𝕄 :=
  iprop(dutyTok ER (barCell c) 0 false ∗ dutyTok ER (barCell c) 0 true
    ∗ bigSepL L8 (fun k => dutyTok ER (dcell c 0 k) 0 false) ∗ bigSepL L8 (fun k => dutyTok ER (dcell c 1 k) 0 false)
    ∗ bigSepL L8 (fun k => dutyTok ER (dcell c 2 k) 0 false) ∗ bigSepL L8 (fun k => dutyTok ER (dcell c 3 k) 0 false))

/-- What is minted for device `c`'s cells. -/
def minted (c : Dev nD) : sProp 𝕄 :=
  iprop((bigSep Finset.univ fun k : Cix => roundState ER (rd m) (kcell (c, k)) 0)
    ∗ (bigSep Finset.univ fun k : Cix => iprop(atPos ER (kcell (c, k)) 0 ∅ 0 ∗ reached ER (kcell (c, k)) 0)) ∗ toks c)

theorem toks_eq (c : Dev nD) : bigSep Finset.univ (fun j : Dix => (dutyTok ER (tokOf (c, j)).1 (tokOf (c, j)).2.1 (tokOf (c, j)).2.2 : sProp 𝕄)) = toks c := by
  rw [bigSep_univ_sum, bigSep_univ_eq_bigSepL [false, true] (by decide) (by decide), bigSep_arr]
  exact Idealize.SL.BI.Entails.antisymm
    (show iprop((dutyTok ER (barCell c) 0 false ∗ dutyTok ER (barCell c) 0 true)
      ∗ bigSepL L8 (fun k => dutyTok ER (dcell c 0 k) 0 false) ∗ bigSepL L8 (fun k => dutyTok ER (dcell c 1 k) 0 false)
      ∗ bigSepL L8 (fun k => dutyTok ER (dcell c 2 k) 0 false) ∗ bigSepL L8 (fun k => dutyTok ER (dcell c 3 k) 0 false)) ⊢ toks c from by
        unfold toks; iintro ⟨⟨H1, H2⟩, H3⟩
        isplitl [H1]; · iexact H1
        isplitl [H2] <;> iassumption)
    (show toks c ⊢ iprop((dutyTok ER (barCell c) 0 false ∗ dutyTok ER (barCell c) 0 true)
      ∗ bigSepL L8 (fun k => dutyTok ER (dcell c 0 k) 0 false) ∗ bigSepL L8 (fun k => dutyTok ER (dcell c 1 k) 0 false)
      ∗ bigSepL L8 (fun k => dutyTok ER (dcell c 2 k) 0 false) ∗ bigSepL L8 (fun k => dutyTok ER (dcell c 3 k) 0 false)) from by
        unfold toks; iintro ⟨H1, H2, H3⟩
        isplitl [H1 H2]
        · isplitl [H1] <;> iassumption
        iexact H3)

theorem fund : BI.own (ER (initOf allCells allToks)) ⊢ (|==> bigSep Finset.univ (minted m) : sProp 𝕄) := by
  have hX (Φ : GSem nD τ sig → sProp 𝕄) : bigSep allCells Φ = bigSep Finset.univ fun c : Dev nD => bigSep Finset.univ fun k : Cix => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold minted; simp only [bigSep_sep']
  isplitl [Hst]; · iexact Hst
  isplitl [Hat Hr]
  · isplitl [Hat] <;> iassumption
  iexact Htok

/-! ## The counters -/

/-- The kernel's own semaphores. -/
def osem (ak : Fin 4 × Fin 8) : SemLoc sig := .dma (cellS ak.1 ak.2)

theorem ownSemFacts : Pipeline.OwnSemFacts cfg0.spec osem where
  isScoped := by decide +kernel
  inj := fun a b h => Option.some.inj (csem_injective (a₁ := some a) (a₂ := some b) h)
  disj := by decide +kernel

theorem ownSems0_eq (c : Dev nD) : (Pipeline.ownSems0 (Ix := Unit) (Name := ℕ) (U := UU) (Lvl := ℕ) (Val := Elt F) (τ := τ) osem c : sProp 𝕄)
    = iprop(bigSepL L8 (fun k => semVal (dcell c 0 k) 0) ∗ bigSepL L8 (fun k => semVal (dcell c 1 k) 0) ∗ bigSepL L8 (fun k => semVal (dcell c 2 k) 0)
      ∗ bigSepL L8 (fun k => semVal (dcell c 3 k) 0)) := by
  unfold Pipeline.ownSems0; rw [bigSep_arr]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cix => semVal (kcell (c, k)) 0 : sProp 𝕄) := by
  rw [ownSems0_eq, unscopedSems0_eq, bigSep_cix]
  iintro ⟨H1, H2⟩
  isplitl [H2]; · iexact H2
  iexact H1

/-! ## The deal -/

/-- The cells of one device become invariants. -/
theorem core_alloc (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold minted
  iintro ⟨Hos, Hus, Hst, Hat, Htok⟩
  ihave Hv := (sems0_eq (F := F) c) $$ [Hos Hus]
  · isplitl [Hos] <;> iassumption
  imod (show iprop((bigSep Finset.univ fun k : Cix => semVal (kcell (c, k)) 0) ∗ bigSep Finset.univ fun k : Cix => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem pos_eq (c : Dev nD) : bigSep Finset.univ (fun k : Cix => (atPos ER (kcell (c, k)) 0 ∅ 0 : sProp 𝕄)) = pos c := by
  unfold pos; rw [bigSep_cix]; rfl

def yE : Dev nD ≃ Dev nD := ⟨yp, yp, yp_yp, yp_yp⟩
def xE : Dev nD ≃ Dev nD := ⟨xp, xp, xp_xp, xp_xp⟩

/-- Tokens of the cells that the neighbours pay go to the neighbours. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => (bigSepL L8 (fun k => dutyTok ER (dcell c 1 k) 0 false) : sProp 𝕄)),
    bigSep_univ_equiv xE (fun c : Dev nD => (bigSepL L8 (fun k => dutyTok ER (dcell c 3 k) 0 false) : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cix → ℕ) (c : Dev nD) : iprop(records m K ∗ (pos c ∗ payToks c)) ⊢ ghost m c := by
  unfold ghost
  iintro H
  iexists K
  iexact H

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × Cix => iprop(∃ κ : ℕ, cellInv ER (rd m) κ (kcell ck))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun ck : Dev nD × Cix => (reached ER (kcell ck) 0 : sProp 𝕄)),
    bigSep_congr (s := Finset.univ) (fun (c : Dev nD) _ => pos_eq (F := F) c)]
  iintro ⟨HI, ⟨Hat, #HR⟩, Htok⟩
  ihave HK := (BI.bigSep_exists_pi Finset.univ (fun (ck : Dev nD × Cix) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (pos c : sProp 𝕄)) payToks).symm)
    isplitl [Hat]; · iexact Hat
    iexact Htk

/-- From all counters at zero and all that was minted, every device gets what it starts from. -/
theorem deal : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (ghost m) :=
  ((bigSep_mono fun c _ => core_alloc m c).trans (bigSep_fupd _ _)).trans (BI.fupd_mono (regroup m))

end Cert.KernelIdeal.Hand

end
-- ==== Proof.Ideal.Credit.lean ====
/-
# The launch credit

What all devices together owe a device's cells is what that device waits for: two units on its barrier cell, a chunk
on each arrival cell.
-/
module

public import proofs.«01_k».proof.Proof.Ideal.Deal

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem owedL_ne {cell : Fin 8 → GSem nD τ sig} {ks : List (Fin 8)} {B : CellTallies nD τ sig Unit} {g : GSem nD τ sig}
    (h : ∀ k, g ≠ cell k) : owedL cell ks B g () = B g () := by
  induction ks with
  | nil => rfl
  | cons k ks ih =>
    show (owedL cell ks B + tallyAt (cell k) () N) g () = _
    rw [Pi.add_apply, Finsupp.add_apply, ih, tallyAt_apply, if_neg (fun h' => h k h'.1), Nat.add_zero]

theorem owedL_at {cell : Fin 8 → GSem nD τ sig} (hc : Function.Injective cell) {ks : List (Fin 8)} (hn : ks.Nodup) {B : CellTallies nD τ sig Unit}
    {k : Fin 8} (hk : k ∈ ks) : owedL cell ks B (cell k) () = N + B (cell k) () := by
  induction ks with
  | nil => cases hk
  | cons k' ks ih =>
    show (owedL cell ks B + tallyAt (cell k') () N) (cell k) () = _
    rw [Pi.add_apply, Finsupp.add_apply, tallyAt_apply]
    rcases List.mem_cons.mp hk with rfl | hk'
    · rw [if_pos ⟨rfl, rfl⟩]
      have hno : k ∉ ks := (List.nodup_cons.mp hn).1
      have : ∀ (l : List (Fin 8)), k ∉ l → owedL cell l B (cell k) () = B (cell k) () := by
        intro l hl
        induction l with
        | nil => rfl
        | cons j l ihl =>
          show (owedL cell l B + tallyAt (cell j) () N) (cell k) () = _
          rw [List.mem_cons, not_or] at hl
          rw [Pi.add_apply, Finsupp.add_apply, ihl hl.2, tallyAt_apply, if_neg (fun h' => hl.1 (hc (And.left h'))), Nat.add_zero]
      rw [this ks hno, Nat.add_comm]
    · have hne : cell k ≠ cell k' := fun e => (List.nodup_cons.mp hn).1 (hc e ▸ hk')
      rw [if_neg (fun h' => hne h'.1), Nat.add_zero]
      exact ih (List.nodup_cons.mp hn).2 hk'

theorem dcell_inj {c c' : Dev nD} {a a' : Fin 4} {k k' : Fin 8} (h : dcell c a k = dcell c' a' k') : c = c' ∧ a = a' ∧ k = k' := by
  have h' := kcell_injective (a₁ := (c, some (a, k))) (a₂ := (c', some (a', k'))) h
  have h1 := Option.some.inj (congrArg Prod.snd h')
  exact ⟨congrArg Prod.fst h', congrArg Prod.fst h1, congrArg Prod.snd h1⟩
theorem barCell_inj {c c' : Dev nD} (h : barCell c = barCell c') : c = c' :=
  congrArg Prod.fst (kcell_injective (a₁ := (c, none)) (a₂ := (c', none)) h)
theorem dcell_ne_bar {c c' : Dev nD} {a : Fin 4} {k : Fin 8} : dcell c a k ≠ barCell c' := fun h => by
  have h' := kcell_injective (a₁ := (c, some (a, k))) (a₂ := (c', none)) h
  cases congrArg Prod.snd h'
theorem dcell_cell_injective (c : Dev nD) (a : Fin 4) : Function.Injective (dcell c a) := fun _ _ h => (dcell_inj h).2.2

theorem mem8 (k : Fin 8) : k ∈ L8 := by revert k; decide

/-- What device `d` owes device `c`'s barrier cell; -/
theorem owed_bar (d c : Dev nD) : O₀ d (barCell c) () = (if d = xp c then 1 else 0) + (if d = yp c then 1 else 0) := by
  unfold O₀ O₁ OY OX
  rw [Pi.add_apply, Finsupp.add_apply, Pi.add_apply, Finsupp.add_apply, owedL_ne (fun k => dcell_ne_bar.symm), owedL_ne (fun k => dcell_ne_bar.symm),
    tallyAt_apply, tallyAt_apply, Pi.zero_apply, Finsupp.zero_apply, Nat.zero_add]
  congr 1
  · by_cases h : d = xp c
    · subst h; rw [xp_xp, if_pos ⟨rfl, rfl⟩, if_pos rfl]
    · rw [if_neg (fun ⟨h1, _⟩ => h (by rw [barCell_inj h1, xp_xp])), if_neg h]
  · by_cases h : d = yp c
    · subst h; rw [yp_yp, if_pos ⟨rfl, rfl⟩, if_pos rfl]
    · rw [if_neg (fun ⟨h1, _⟩ => h (by rw [barCell_inj h1, yp_yp])), if_neg h]

/-- the arrival cells for its `y` neighbour; -/
theorem owed_y (d c : Dev nD) (k : Fin 8) : O₀ d (dcell c 1 k) () = if d = yp c then N else 0 := by
  unfold O₀ O₁ OY
  rw [Pi.add_apply, Finsupp.add_apply, Pi.add_apply, Finsupp.add_apply, tallyAt_ne_cell dcell_ne_bar, tallyAt_ne_cell dcell_ne_bar,
    Finsupp.zero_apply, Nat.add_zero, Nat.add_zero]
  have hX : OX d L8 (dcell c 1 k) () = 0 := by
    unfold OX
    rw [owedL_ne (fun k' h => absurd (dcell_inj h).2.1 (by decide))]; rfl
  by_cases h : d = yp c
  · subst h
    rw [yp_yp, owedL_at (dcell_cell_injective c 1) nodup8 (mem8 k), hX, if_pos rfl]; rfl
  · rw [owedL_ne (fun k' h' => h (by rw [(dcell_inj h').1, yp_yp])), hX, if_neg h]

/-- the arrival cells for its `x` neighbour. -/
theorem owed_x (d c : Dev nD) (k : Fin 8) : O₀ d (dcell c 3 k) () = if d = xp c then N else 0 := by
  unfold O₀ O₁ OY OX
  rw [Pi.add_apply, Finsupp.add_apply, Pi.add_apply, Finsupp.add_apply, tallyAt_ne_cell dcell_ne_bar, tallyAt_ne_cell dcell_ne_bar,
    Finsupp.zero_apply, Nat.add_zero, Nat.add_zero, owedL_ne (fun k' h => absurd (dcell_inj h).2.1 (by decide))]
  by_cases h : d = xp c
  · subst h
    rw [xp_xp, owedL_at (dcell_cell_injective c 3) nodup8 (mem8 k), if_pos rfl]; rfl
  · rw [owedL_ne (fun k' h' => h (by rw [(dcell_inj h').1, xp_xp])), if_neg h]; rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]

/-- A cell to which just one device owes a chunk has a chunk's credit. -/
theorem launch_dma (c e : Dev nD) (a : Fin 4) (k : Fin 8) (h : ∀ d, O₀ d (dcell c a k) () = if d = e then N else 0) :
    tallyOn (dcell c a k) (launchCredit (Pipeline.owing O₀) 0 (dcell c a k)) = (tallyAt (dcell c a k) () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => N,
    if_pos (Finset.mem_univ _)]

/-- The launch credit of one cell. -/
def cellCred (g : GSem nD τ sig) : sProp 𝕄 := cred (tallyOn g (launchCredit (Pipeline.owing O₀) 0 g))

theorem launchCred_cells (c : Dev nD) : (Pipeline.launchCred O₀ c : sProp 𝕄) ⊢ iprop(cellCred (barCell c)
    ∗ bigSepL L8 (fun k => cellCred (dcell c 0 k)) ∗ bigSepL L8 (fun k => cellCred (dcell c 1 k)) ∗ bigSepL L8 (fun k => cellCred (dcell c 2 k))
    ∗ bigSepL L8 (fun k => cellCred (dcell c 3 k))) := by
  unfold Pipeline.launchCred
  have h : bigSep (Finset.univ.map ⟨csem, csem_injective⟩) (fun sm => cellCred (F := F) ((c : Thread nD τ), sm)) = iprop(cellCred (barCell c)
    ∗ bigSepL L8 (fun k => cellCred (dcell c 0 k)) ∗ bigSepL L8 (fun k => cellCred (dcell c 1 k)) ∗ bigSepL L8 (fun k => cellCred (dcell c 2 k))
    ∗ bigSepL L8 (fun k => cellCred (dcell c 3 k))) := by
    rw [bigSep_map, bigSep_cix]; rfl
  rw [← h]
  exact bigSep_subset (Finset.subset_univ (Finset.univ.map ⟨csem, csem_injective⟩))

theorem creds_intro (c : Dev nD) : (Pipeline.launchCred O₀ c : sProp 𝕄) ⊢ creds c := by
  have hy : (fun k => cellCred (F := F) (dcell c 1 k)) = fun k => cred (tallyAt (dcell c 1 k) () N) :=
    funext fun k => congrArg (fun x => (cred x : sProp 𝕄)) (launch_dma c (yp c) 1 k fun d => owed_y d c k)
  have hx : (fun k => cellCred (F := F) (dcell c 3 k)) = fun k => cred (tallyAt (dcell c 3 k) () N) :=
    funext fun k => congrArg (fun x => (cred x : sProp 𝕄)) (launch_dma c (xp c) 3 k fun d => owed_x d c k)
  have hb : cellCred (F := F) (barCell c) = cred (tallyAt (barCell c) () 2) := congrArg (fun x => (cred x : sProp 𝕄)) (launch_bar c)
  unfold creds
  iintro H
  ihave H := (launchCred_cells (F := F) c) $$ H
  rw [hy, hx, hb]
  icases H with ⟨HB, -, H1, -, H3⟩
  isplitl [HB]; · iexact HB
  isplitl [H1] <;> iassumption

end Cert.KernelIdeal.Hand

end
-- ==== Proof.Ideal.Launch.lean ====
/-
# The launch

Every run of the program on the mesh ends, with each device's result array as computed, its operands as they
were and every counter at zero.
-/
module

public import proofs.«01_k».proof.Proof.Ideal.Credit
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁ zeros scratch
  iintro ⟨⟨HzB, Hz⟩, Hr⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What array `w` of device `c` holds at the end. -/
def finalA (c : Dev nD) (w : Fin cfg0.W) : Buf (Elt F) ((cfg0.win w).arr.view.loc (c : Thread nD τ)) := (dats m ρ 0 c).arrAt w cfg0.N

/-- All three arrays of every device are as stated. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run from any memory with counters at zero ends with the arrays as stated and the counters at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := minted m) (G' := ghost m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := deal m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they were. -/
theorem finalA_0 (c : Dev nD) : finalA m ρ c (0 : Fin 3) = m ((c : Thread nD τ).loc main_arg0) := (dats (F := F) m ρ 0 c).arrAt_in (0 : Fin 3) rfl _
theorem finalA_1 (c : Dev nD) : finalA m ρ c (1 : Fin 3) = m ((c : Thread nD τ).loc main_arg1) := (dats (F := F) m ρ 0 c).arrAt_in (1 : Fin 3) rfl _

end Cert.KernelIdeal.Hand

end
-- ==== Proof.Ideal.Payload.lean ====
/-
# What one block computes, element by element

Over the reals: the products of a chunk of rows are sums over the device's half of the contraction, a total is such
a sum and the neighbour's, and the casts change nothing.
-/
module

public import proofs.«01_k».proof.Proof.Gen.KernelIdeal.Skeleton
public import Idealize.ShloMosaic.PureOps.Ideal
public import Idealize.ShloMosaic.Lib.Pointwise

@[expose] public section

noncomputable section

namespace Cert.KernelIdeal.Hand

open Cert.KernelIdeal Cert.KernelIdeal.Gen
open Idealize.ShloMosaic Idealize.ShloMosaic.TcCoe

/-- Column `n` of row `r` of a chunk's products: the sum over the 512 local positions of the contraction, position
    `j` being place `j % 64` of head `j / 64`. -/
def rowSum (o : Vec Ideal S1x128x8x64 .bf16) (w : Vec Ideal S512x512 .bf16) (r : Fin 128) (n : Fin 512) : Ideal .f32 :=
  ∑ j : Fin 512, o (ix4 0 r ⟨j.val / 64, by omega⟩ ⟨j.val % 64, by omega⟩) * w (ix2 j n)

/-- The staged half of the right operand is copied as it is. -/
theorem pay1_at (w : Vec Ideal S512x512 .bf16) (j n : Fin 512) : k0_pay1 w (ix2 j n) = w (ix2 j n) := by
  pointwise [k0_pay1]

/-- A chunk's products, to be sent, are the row sums. -/
theorem pay2_at (o : Vec Ideal S1x128x8x64 .bf16) (w : Vec Ideal S512x512 .bf16) (z : Fin 1) (r : Fin 128) (n : Fin 512) :
    k0_pay2 o w (ix3 z r n) = rowSum o w r n := by
  unfold rowSum
  pointwise [k0_pay2]

/-- A chunk's total is the row sums and what came from the neighbour; -/
theorem pay20_at (o : Vec Ideal S1x128x8x64 .bf16) (w : Vec Ideal S512x512 .bf16) (y : Vec Ideal S1x128x512 .bf16)
    (z : Fin 1) (r : Fin 128) (n : Fin 512) : k0_pay20 o w y (ix3 z r n) = rowSum o w r n + y (ix3 0 r n) := by
  unfold rowSum
  pointwise [k0_pay20, k0_pay19]

/-- and so is the total that is sent on. -/
theorem pay21_at (o : Vec Ideal S1x128x8x64 .bf16) (w : Vec Ideal S512x512 .bf16) (y : Vec Ideal S1x128x512 .bf16)
    (z : Fin 1) (r : Fin 128) (n : Fin 512) : k0_pay21 o w y (ix3 z r n) = rowSum o w r n + y (ix3 0 r n) := by
  unfold rowSum
  pointwise [k0_pay21, k0_pay19]

/-- A received batch is written as it is. -/
theorem pay43_at (v : Vec Ideal S1x256x512 .bf16) (z : Fin 1) (r : Fin 256) (n : Fin 512) :
    k0_pay43 v (ix3 z r n) = v (ix3 0 r n) := by
  pointwise [k0_pay43]

end Cert.KernelIdeal.Hand

end
-- ==== Proof.Reference.Value.lean ====
/-
# What the reference computes

Each element of the reference's result is a sum over the whole contraction; that sum is the sum over the one half
and the sum over the other.
-/
module

public import proofs.«01_k».proof.Proof.Gen.ReferenceIdeal.Run
public import Idealize.ShloMosaic.PureOps.Ideal
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe

/-- The part of element `(b, s, n)` of the product that half `y` of the contraction (heads `8 y` to `8 y + 7`) gives. -/
def part (O : Vec Ideal S4x512x16x64 .bf16) (W : Vec Ideal S1024x1024 .bf16) (y : Fin 2) (b : Fin 4) (s : Fin 512) (n : Fin 1024) :
    Ideal .f32 :=
  ∑ j : Fin 512, O (ix4 b s ⟨8 * y.val + j.val / 64, by omega⟩ ⟨j.val % 64, by omega⟩) * W (ix2 ⟨512 * y.val + j.val, by omega⟩ n)

/-- The reference's result as a function of its arguments. -/
def refOut (O : Vec Ideal S4x512x16x64 .bf16) (W : Vec Ideal S1024x1024 .bf16) : Vec Ideal S4x512x1024 .f32 :=
  extf .f32 (truncf .bf16 (Host.dotGeneral (F := Ideal) (φ₁ := .bf16) (φ₂ := .bf16) dot_S4x512x1024_S1024x1024_S4x512x1024_2_0_01_1_n_n none
    (shapeCast S4x512x1024 O shapeCasts_S4x512x16x64_S4x512x1024) W) bitsLt_bf16_f32) bitsLt_bf16_f32

/-- Each element of the reference's result is a sum over the contraction. -/
theorem refOut_at (O : Vec Ideal S4x512x16x64 .bf16) (W : Vec Ideal S1024x1024 .bf16) (b : Fin 4) (s : Fin 512) (n : Fin 1024) :
    refOut O W (ix3 b s n) = ∑ j : Fin 1024, O (ix4 b s ⟨j.val / 64, by omega⟩ ⟨j.val % 64, by omega⟩) * W (ix2 j n) := by
  pointwise [refOut]

/-- Each element of the reference's result is the sum of the two halves' parts. -/
theorem refOut_parts (O : Vec Ideal S4x512x16x64 .bf16) (W : Vec Ideal S1024x1024 .bf16) (b : Fin 4) (s : Fin 512) (n : Fin 1024) :
    refOut O W (ix3 b s n) = part O W 0 b s n + part O W 1 b s n := by
  rw [refOut_at]
  unfold part
  refine (Fin.sum_univ_add (a := 512) (b := 512) _).trans ?_
  refine congrArg₂ (· + ·) ?_ ?_
  · refine Finset.sum_congr rfl fun j _ => ?_
    refine congrArg₂ (· * ·) (congrArg O ?_) (congrArg W ?_)
    · rw [ix4_inj]
      refine ⟨rfl, rfl, Fin.ext ?_, Fin.ext ?_⟩
      · show j.val / 64 = 8 * 0 + j.val / 64; omega
      · rfl
    · rw [ix2_inj]
      exact ⟨Fin.ext (by show j.val = 512 * 0 + j.val; omega), rfl⟩
  · refine Finset.sum_congr rfl fun j _ => ?_
    refine congrArg₂ (· * ·) (congrArg O ?_) (congrArg W ?_)
    · rw [ix4_inj]
      refine ⟨rfl, rfl, Fin.ext ?_, Fin.ext ?_⟩
      · show (512 + j.val) / 64 = 8 * 1 + j.val / 64; omega
      · show (512 + j.val) % 64 = j.val % 64; omega
    · rw [ix2_inj]
      exact ⟨Fin.ext (by show 512 + j.val = 512 * 1 + j.val; omega), rfl⟩

end Cert.ReferenceIdeal.Hand

end
-- ==== Proof.Ideal.Value.lean ====
/-
# The result is the device's block of the reference's

Where the devices' operands are their blocks of whole arrays `O` and `W`, each buffer's contents are given by the two
parts of the reference's sums: what a device sends to its `y` neighbour is its half's part of the neighbour's rows,
a total is the reference's element, and the result is the device's block of the reference's result.
-/
module

public import proofs.«01_k».proof.Proof.Ideal.Launch
public import proofs.«01_k».proof.Proof.Ideal.Payload
public import proofs.«01_k».proof.Proof.Reference.Value
public import Idealize.ShloMosaic.Lib.Layout

@[expose] public section

noncomputable section

namespace Cert.KernelIdeal.Hand

open Cert.KernelIdeal Cert.KernelIdeal.Gen
open Idealize.ShloMosaic Idealize.ShloMosaic.TcCoe
open Idealize.SL.Sem
open Cert.ReferenceIdeal.Hand (part refOut refOut_parts)

/-! ## Coordinates -/

/-- A device's `y` coordinate and its `x` coordinate. -/
def yc (c : Dev nD) : Fin 2 := ⟨c.val / 4 % 2, Nat.mod_lt _ (by decide)⟩
def xc (c : Dev nD) : Fin 2 := ⟨c.val / 8, x_lt c⟩

theorem yc_yp (c : Dev nD) : (yc (yp c)).val = 1 - (yc c).val := by revert c; decide +kernel
theorem xc_yp (c : Dev nD) : xc (yp c) = xc c := by revert c; decide +kernel
theorem yc_xp (c : Dev nD) : yc (xp c) = yc c := by revert c; decide +kernel
theorem xc_xp (c : Dev nD) : (xc (xp c)).val = 1 - (xc c).val := by revert c; decide +kernel

/-- The batch of chunk `k`. -/
def bk (k : Fin 8) : Fin 4 := ⟨k.val / 2, by omega⟩
/-- Row `r` of chunk `k`, in `y` half `y` of the rows. -/
def sk (y : Fin 2) (k : Fin 8) (r : Fin 128) : Fin 512 := ⟨256 * y.val + 128 * (k.val % 2) + r.val, by omega⟩
/-- Column `n` of `x` half `x` of the columns. -/
def nx (x : Fin 2) (n : Fin 512) : Fin 1024 := ⟨512 * x.val + n.val, by omega⟩

/-! ## The operands -/

variable (m : (ℓ : Loc nD τ sig) → Buf (Elt Ideal) ℓ)

/-- The whole of an array is staged. -/
theorem oC_eq (c : Dev nD) : oC m c = m ((c : Thread nD τ).loc main_arg0) :=
  Memref.read_access_unit_zero (Elt Ideal) main_arg0 (funext fun a => by fin_cases a <;> decide) (fun a => by fin_cases a <;> decide) _
theorem wC_eq (c : Dev nD) : wC m c = m ((c : Thread nD τ).loc main_arg1) :=
  Memref.read_access_unit_zero (Elt Ideal) main_arg1 (funext fun a => by fin_cases a <;> decide) (fun a => by fin_cases a <;> decide) _

variable (O : Vec Ideal Cert.ReferenceIdeal.S4x512x16x64 .bf16) (W : Vec Ideal Cert.ReferenceIdeal.S1024x1024 .bf16)

/-- Every device holds its block of the left operand; -/
def HasO : Prop := ∀ c : Dev nD, m ((c.tc : Thread nD τ).loc main_arg0)
  = Layout.blockN ⟨4, ![4, 512, 8, 64]⟩ ⟨4, ![4, 512, 16, 64]⟩ (Layout.meshBlock [2, 2, 4] ![[], [], [1], []] c) O
/-- and of the right operand. -/
def HasW : Prop := ∀ c : Dev nD, m ((c.tc : Thread nD τ).loc main_arg1)
  = Layout.blockN ⟨2, ![512, 1024]⟩ ⟨2, ![1024, 1024]⟩ (Layout.meshBlock [2, 2, 4] ![[1], []] c) W

/-- The block that device `c` holds along a dimension cut over the `y` axis. -/
theorem meshLin_y (c : Dev nD) : Layout.meshLin [2, 2, 4] c.val [1] = (yc c).val := by revert c; decide

variable {m O W}

/-- An element of device `c`'s left operand: the heads are those of its `y` half. -/
theorem HasO.at (h : HasO m O) (c : Dev nD) (b : Fin 4) (s : Fin 512) (e : Fin 8) (d : Fin 64) :
    oC m c (ix4 b s e d) = O (ix4 b s ⟨8 * (yc c).val + e.val, by omega⟩ d) := by
  rw [oC_eq, h c, Layout.blockN_apply]
  congr 1
  have hy := meshLin_y c
  funext a
  apply Fin.ext
  rw [Layout.TilesN.idx_val]
  fin_cases a
  · show 0 * 4 + b.val = b.val; omega
  · show 0 * 512 + s.val = s.val; omega
  · show Layout.meshLin [2, 2, 4] c.val [1] * 8 + e.val = 8 * (yc c).val + e.val; omega
  · show 0 * 64 + d.val = d.val; omega

/-- An element of device `c`'s right operand: the rows are those of its `y` half. -/
theorem HasW.at (h : HasW m W) (c : Dev nD) (j : Fin 512) (n : Fin 1024) :
    wC m c (ix2 j n) = W (ix2 ⟨512 * (yc c).val + j.val, by omega⟩ n) := by
  rw [wC_eq, h c, Layout.blockN_apply]
  congr 1
  have hy := meshLin_y c
  funext a
  apply Fin.ext
  rw [Layout.TilesN.idx_val]
  fin_cases a
  · show Layout.meshLin [2, 2, 4] c.val [1] * 512 + j.val = 512 * (yc c).val + j.val; omega
  · show 0 * 1024 + n.val = n.val; omega

/-- The column half kept in scratch. -/
theorem HasW.half (h : HasW m W) (c : Dev nD) (j n : Fin 512) :
    wbC m c (ix2 j n) = W (ix2 ⟨512 * (yc c).val + j.val, by omega⟩ (nx (xc c) n)) := by
  unfold wbC
  rw [pay1_at, ← h.at]
  show wC m c ((rectW c).emb (ix2 j n)) = _
  congr 1
  funext a
  apply Fin.ext
  have e0 : k0_off1 c 0 = 0 := by rw [k0_off1_eq]; rfl
  have e1 : k0_off1 c 1 = 512 * (c.val / 8) := by rw [k0_off1_eq]; rfl
  fin_cases a
  · show k0_off1 c 0 + 1 * j.val = j.val; omega
  · show k0_off1 c 1 + 1 * n.val = 512 * (c.val / 8) + n.val; omega

/-- The products of 128 rows of the left operand, from row `s₀` of batch `b`, with the column half. -/
theorem rowSum_eq (hO : HasO m O) (hW : HasW m W) (c : Dev nD) (off : Fin 4 → Nat)
    (hin : ∀ a, off a + S1x128x8x64.size a ≤ S4x512x8x64.size a) (b : Fin 4) (r : Fin 128) (s : Fin 512) (n : Fin 512)
    (e0 : off 0 = b.val) (e1 : off 1 + r.val = s.val) (e2 : off 2 = 0) (e3 : off 3 = 0) :
    rowSum (oM.view.readAt (Elt Ideal) (Rect.unit (s := S4x512x8x64) off S1x128x8x64.size hin).toLoadRect (oC m c)) (wbC m c) r n
      = part O W (yc c) b s (nx (xc c) n) := by
  unfold rowSum part
  refine Finset.sum_congr rfl fun j _ => ?_
  rw [hW.half]
  refine congrArg (· * _) ?_
  refine Eq.trans ?_ (hO.at c b s ⟨j.val / 64, by omega⟩ ⟨j.val % 64, by omega⟩)
  show oC m c ((Rect.unit (s := S4x512x8x64) off S1x128x8x64.size hin).emb (ix4 0 r ⟨j.val / 64, by omega⟩ ⟨j.val % 64, by omega⟩)) = _
  congr 1
  funext a
  apply Fin.ext
  fin_cases a
  · show off 0 + 1 * 0 = b.val; omega
  · show off 1 + 1 * r.val = s.val; omega
  · show off 2 + 1 * (j.val / 64) = j.val / 64; omega
  · show off 3 + 1 * (j.val % 64) = j.val % 64; omega

/-! ## What is sent, and the totals -/

/-- What device `c`'s `y` neighbour sends it: the other half's part of the rows that `c` keeps. -/
theorem ysC_at (hO : HasO m O) (hW : HasW m W) (c : Dev nD) (k : Fin 8) (z : Fin 1) (r : Fin 128) (n : Fin 512) :
    ysC m (yp c) k (ix3 z r n) = part O W (yc (yp c)) (bk k) (sk (yc c) k r) (nx (xc c) n) := by
  unfold ysC
  rw [pay2_at, ← xc_yp c]
  have h := yc_yp c
  have hy : (yc c).val < 2 := (yc c).isLt
  have hy' : (yc (yp c)).val = (yp c).val / 4 % 2 := rfl
  refine rowSum_eq hO hW (yp c) (offY (yp c) k) (offY_inb (yp c) k) (bk k) r (sk (yc c) k r) n ?_ ?_ ?_ ?_ <;> rw [offY_eq]
  · rfl
  · show (128 * (k.val % 2) + 256) - 256 * ((yp c).val / 4 % 2) + r.val = 256 * (yc c).val + 128 * (k.val % 2) + r.val
    omega
  · rfl
  · rfl

/-- The device's own part of the rows that it keeps. -/
theorem own_at (hO : HasO m O) (hW : HasW m W) (c : Dev nD) (k : Fin 8) (r : Fin 128) (n : Fin 512) :
    rowSum (oM.view.readAt (Elt Ideal) (rectX c k).toLoadRect (oC m c)) (wbC m c) r n
      = part O W (yc c) (bk k) (sk (yc c) k r) (nx (xc c) n) := by
  refine rowSum_eq hO hW c (offX c k) (offX_inb c k) (bk k) r (sk (yc c) k r) n ?_ ?_ ?_ ?_ <;> rw [offX_eq]
  · rfl
  · rfl
  · rfl
  · rfl

/-- The parts of a device's half and of its `y` neighbour's make the reference's element. -/
theorem parts_eq (c : Dev nD) (b : Fin 4) (s : Fin 512) (n : Fin 1024) :
    part O W (yc c) b s n + part O W (yc (yp c)) b s n = refOut O W (ix3 b s n) := by
  rw [refOut_parts]
  have h := yc_yp c
  rcases (show yc c = 0 ∨ yc c = 1 by revert c; decide) with hy | hy
  · rw [hy] at h ⊢
    rw [show yc (yp c) = 1 from Fin.ext h]
  · rw [hy] at h ⊢
    rw [show yc (yp c) = 0 from Fin.ext h, add_comm]

/-- A total is the reference's element, whether kept -/
theorem totC_at (hO : HasO m O) (hW : HasW m W) (c : Dev nD) (k : Fin 8) (z : Fin 1) (r : Fin 128) (n : Fin 512) :
    totC m c k (ix3 z r n) = refOut O W (ix3 (bk k) (sk (yc c) k r) (nx (xc c) n)) := by
  unfold totC
  rw [pay20_at, own_at hO hW, ysC_at hO hW, parts_eq]
/-- or sent. -/
theorem xsC_at (hO : HasO m O) (hW : HasW m W) (c : Dev nD) (k : Fin 8) (z : Fin 1) (r : Fin 128) (n : Fin 512) :
    xsC m c k (ix3 z r n) = refOut O W (ix3 (bk k) (sk (yc c) k r) (nx (xc c) n)) := by
  unfold xsC
  rw [pay21_at, own_at hO hW, ysC_at hO hW, parts_eq]

/-- Row `s` of `y` half `y` of the rows. -/
def sy (y : Fin 2) (s : Fin 256) : Fin 512 := ⟨256 * y.val + s.val, by omega⟩

/-- A buffer glued of chunks that are the reference's elements holds the reference's elements. -/
theorem glue_at {y x : Fin 2} {R : Vec Ideal Cert.ReferenceIdeal.S4x512x1024 .f32} {g : Fin 8 → S1x128x512.Idx → Ideal .f32}
    (h : ∀ k z r n, g k (ix3 z r n) = R (ix3 (bk k) (sk y k r) (nx x n))) (b : Fin 4) (s : Fin 256) (n : Fin 512) :
    glue g (ix3 b s n) = R (ix3 b (sy y s) (nx x n)) := by
  have hs : s.val < 256 := s.isLt
  have hb : b.val < 4 := b.isLt
  refine (h (chunkOf (ix3 b s n)) ⟨0, Nat.one_pos⟩ ⟨s.val % 128, Nat.mod_lt _ (by decide)⟩ n).trans ?_
  congr 1
  rw [ix3_inj]
  refine ⟨Fin.ext ?_, Fin.ext ?_, rfl⟩
  · show (2 * b.val + s.val / 128) / 2 = b.val; omega
  · show 256 * y.val + 128 * ((2 * b.val + s.val / 128) % 2) + s.val % 128 = 256 * y.val + s.val; omega

/-- What a device takes from its `x` neighbour is the reference's elements of the other column half. -/
theorem finC_at (hO : HasO m O) (hW : HasW m W) (c : Dev nD) (b : Fin 4) (z : Fin 1) (s : Fin 256) (n : Fin 512) :
    finC m c b (ix3 z s n) = refOut O W (ix3 b (sy (yc c) s) (nx (xc (xp c)) n)) := by
  unfold finC
  rw [pay43_at, ← yc_xp c]
  refine Eq.trans (congrArg (xsF m (xp c)) ?_) (glue_at (y := yc (xp c)) (x := xc (xp c)) (R := refOut O W) (g := xsC m (xp c))
    (fun k z r n => xsC_at hO hW (xp c) k z r n) b s n)
  funext a
  apply Fin.ext
  fin_cases a
  · show b.val + 1 * 0 = b.val; omega
  · show 0 + 1 * s.val = s.val; omega
  · show 0 + 1 * n.val = n.val; omega

/-! ## The result -/

/-- The result of device `c` is its `y` half of the rows of the reference's. -/
theorem outC_at (hO : HasO m O) (hW : HasW m W) (c : Dev nD) (b : Fin 4) (s : Fin 256) (n : Fin 1024) :
    outC m c (ix3 b s n) = refOut O W (ix3 b (sy (yc c) s) n) := by
  have hn : n.val < 1024 := n.isLt
  have hx := xc_xp c
  have hv : (xc c).val = c.val / 8 := rfl
  have hl : (xc c).val < 2 := (xc c).isLt
  unfold outC
  by_cases hc : n.val / 512 = c.val / 8
  · refine (if_pos hc).trans ?_
    refine (glue_at (y := yc c) (x := xc c) (R := refOut O W) (g := totC m c) (fun k z r n => totC_at hO hW c k z r n)
      b s ⟨n.val % 512, Nat.mod_lt _ (by decide)⟩).trans ?_
    congr 1
    rw [ix3_inj]
    exact ⟨rfl, rfl, Fin.ext (by show 512 * (xc c).val + n.val % 512 = n.val; omega)⟩
  · refine (if_neg hc).trans ?_
    refine (finC_at hO hW c b ⟨0, Nat.one_pos⟩ s ⟨n.val % 512, Nat.mod_lt _ (by decide)⟩).trans ?_
    congr 1
    rw [ix3_inj]
    exact ⟨rfl, rfl, Fin.ext (by show 512 * (xc (xp c)).val + n.val % 512 = n.val; omega)⟩

/-- So it is its block of the reference's result. -/
theorem outC_block (hO : HasO m O) (hW : HasW m W) (c : Dev nD) :
    outC m c = Layout.blockN ⟨3, ![4, 256, 1024]⟩ ⟨3, ![4, 512, 1024]⟩ (Layout.meshBlock [2, 2, 4] ![[], [1], []] c) (refOut O W) := by
  funext i
  rw [eq_ix3 i]
  refine (outC_at hO hW c (i 0) (i 1) (i 2)).trans ?_
  rw [Layout.blockN_apply]
  congr 1
  have hy := meshLin_y c
  funext a
  apply Fin.ext
  rw [Layout.TilesN.idx_val]
  fin_cases a
  · show (i 0).val = 0 * 4 + (i 0).val; omega
  · show 256 * (yc c).val + (i 1).val = Layout.meshLin [2, 2, 4] c.val [1] * 256 + (i 1).val; omega
  · show (i 2).val = 0 * 1024 + (i 2).val; omega

/-- The result array ends as the body left the staged result. -/
theorem finalA_2 (m : (ℓ : Loc nD τ sig) → Buf (Elt Ideal) ℓ) (ρ : Dev nD → PrngReg) (c : Dev nD) :
    finalA m ρ c (2 : Fin 3) = outC m c := by
  have h : (win0_2.blk (0 : Fin 1)).view.read (Elt Ideal) (finalA m ρ c (2 : Fin 3)) = outC m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact Eq.trans (Memref.read_access_unit_zero (Elt Ideal) main_v1 (funext fun a => by fin_cases a <;> decide)
    (fun a => by fin_cases a <;> decide) _).symm h

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Ideal.Value
public import proofs.«01_k».proof.Proof.Rounded.Launch

@[expose] public section

noncomputable section

namespace Cert.Proof

open Idealize.ShloMosaic Idealize.SL.Sem

/-- The kernel runs, over machine floats, and leaves its arguments unchanged and its counters at zero. -/
theorem frame_kernel : Cert.quiescent_Kernel (hKernel := Cert.Kernel.Gen.facts) := by
  intro m g _
  exact (θ_run Cert.Kernel.defs _ _).mono
    (fun _ h => ⟨fun c => ⟨(h.1 c (0 : Fin 3)).trans (Cert.Kernel.Hand.finalA_0 m g c),
      (h.1 c (1 : Fin 3)).trans (Cert.Kernel.Hand.finalA_1 m g c)⟩, h.2⟩)
    (Cert.Kernel.Hand.run_main (F := Bits) m g)

/-- So does it over the reals. -/
theorem frame_ideal : Cert.quiescent_KernelIdeal (hKernelIdeal := Cert.KernelIdeal.Gen.facts) := by
  intro m g _
  exact (θ_run Cert.KernelIdeal.defs _ _).mono
    (fun _ h => ⟨fun c => ⟨(h.1 c (0 : Fin 3)).trans (Cert.KernelIdeal.Hand.finalA_0 m g c),
      (h.1 c (1 : Fin 3)).trans (Cert.KernelIdeal.Hand.finalA_1 m g c)⟩, h.2⟩)
    (Cert.KernelIdeal.Hand.run_main (F := Ideal) m g)

/-- So does the reference, which has no semaphore. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- Over the reals, each device's result is its block of the reference's result. -/
theorem value : Cert.algebraic_KernelIdeal_ReferenceIdeal (hKernelIdeal := Cert.KernelIdeal.Gen.facts)
    (hReferenceIdeal := Cert.ReferenceIdeal.Gen.facts) := by
  intro m g m' g' _ hin
  refine ⟨Cert.ReferenceIdeal.Hand.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c (2 : Fin 3)).trans ((Cert.KernelIdeal.Hand.finalA_2 m g c).trans
          (Cert.KernelIdeal.Hand.outC_block (fun c => (hin c).1) (fun c => (hin c).2) c)),
        (h.1 c (0 : Fin 3)).trans (Cert.KernelIdeal.Hand.finalA_0 m g c),
        (h.1 c (1 : Fin 3)).trans (Cert.KernelIdeal.Hand.finalA_1 m g c)⟩)
      (Cert.KernelIdeal.Hand.run_main (F := Ideal) m g)
  · exact (θ_run Cert.ReferenceIdeal.defs _ _).mono (fun _ h => h 0)
      (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, value⟩

end Cert.Proof

end
